-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_tot" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x128x192 : Shape := ⟨3, ![4, 128, 192]⟩
abbrev S2x128x128 : Shape := ⟨3, ![2, 128, 128]⟩
abbrev S128x1 : Shape := ⟨2, ![128, 1]⟩
abbrev S128 : Shape := ⟨1, ![128]⟩
abbrev S128x256 : Shape := ⟨2, ![128, 256]⟩
abbrev S512x192 : Shape := ⟨2, ![512, 192]⟩
abbrev S256x128 : Shape := ⟨2, ![256, 128]⟩
abbrev S128x6 : Shape := ⟨2, ![128, 6]⟩
abbrev S_ : Shape := ⟨0, ![]⟩
abbrev S128x8 : Shape := ⟨2, ![128, 8]⟩
abbrev S192x192 : Shape := ⟨2, ![192, 192]⟩
abbrev S128x192 : Shape := ⟨2, ![128, 192]⟩
abbrev S128x128 : Shape := ⟨2, ![128, 128]⟩
abbrev S192x1 : Shape := ⟨2, ![192, 1]⟩
abbrev S1x192 : Shape := ⟨2, ![1, 192]⟩
abbrev S192 : Shape := ⟨1, ![192]⟩

abbrev nBuf : Space → Nat
  | .hbm => 48
  | .vmem => 10
  | .smem => 0
  | _ => 0

abbrev bufTy : (tb : Table) → Fin (tcTables nBuf tb) → BufTy
  | .hbm, ⟨0, _⟩ => ⟨S4x128x192, .f32⟩
  | .hbm, ⟨1, _⟩ => ⟨S4x128x192, .f32⟩
  | .hbm, ⟨2, _⟩ => ⟨S2x128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x128x128, .f32⟩
  | .hbm, ⟨11, _⟩ => ⟨S128x1, .f32⟩
  | .hbm, ⟨12, _⟩ => ⟨S128x1, .f32⟩
  | .hbm, ⟨13, _⟩ => ⟨S128, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S512x192, .f32⟩
  | .hbm, ⟨19, _⟩ => ⟨S512x192, .f32⟩
  | .hbm, ⟨20, _⟩ => ⟨S256x128, .f32⟩
  | .hbm, ⟨21, _⟩ => ⟨S128, .f32⟩
  | .hbm, ⟨22, _⟩ => ⟨S128, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x6, .f32⟩
  | .hbm, ⟨30, _⟩ => ⟨S_, .i32⟩
  | .hbm, ⟨31, _⟩ => ⟨S_, .f32⟩
  | .hbm, ⟨32, _⟩ => ⟨S128x8, .f32⟩
  | .hbm, ⟨33, _⟩ => ⟨S256x128, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x6, .f32⟩
  | .hbm, ⟨43, _⟩ => ⟨S_, .i32⟩
  | .hbm, ⟨44, _⟩ => ⟨S_, .f32⟩
  | .hbm, ⟨45, _⟩ => ⟨S128x8, .f32⟩
  | .hbm, ⟨46, _⟩ => ⟨S512x192, .f32⟩
  | .hbm, ⟨47, _⟩ => ⟨S512x192, .f32⟩
  | .local _ .vmem, ⟨0, _⟩ => ⟨S512x192, .f32⟩
  | .local _ .vmem, ⟨1, _⟩ => ⟨S512x192, .f32⟩
  | .local _ .vmem, ⟨2, _⟩ => ⟨S256x128, .f32⟩
  | .local _ .vmem, ⟨3, _⟩ => ⟨S128x256, .f32⟩
  | .local _ .vmem, ⟨4, _⟩ => ⟨S128x8, .f32⟩
  | .local _ .vmem, ⟨5, _⟩ => ⟨S256x128, .f32⟩
  | .local _ .vmem, ⟨6, _⟩ => ⟨S128x256, .f32⟩
  | .local _ .vmem, ⟨7, _⟩ => ⟨S128x8, .f32⟩
  | .local _ .vmem, ⟨8, _⟩ => ⟨S512x192, .f32⟩
  | .local _ .vmem, ⟨9, _⟩ => ⟨S512x192, .f32⟩
  | _, _ => ⟨S4x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_call0_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_0 : Ref sig .tc := ⟨.hbm, 43, rfl⟩
abbrev main_call1_v0 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S512x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "inv_tot" => some ((1 / 1536 : ℝ) : EReal)
  | "mask" => some ⊥
  | _ => none
-- ==== ReferenceIdeal.lean ====
abbrev S4x128x192 : Shape := ⟨3, ![4, 128, 192]⟩
abbrev S2x128x128 : Shape := ⟨3, ![2, 128, 128]⟩
abbrev S128x1 : Shape := ⟨2, ![128, 1]⟩
abbrev S128 : Shape := ⟨1, ![128]⟩
abbrev S128x256 : Shape := ⟨2, ![128, 256]⟩
abbrev S4x128x384 : Shape := ⟨3, ![4, 128, 384]⟩
abbrev S4x384x128 : Shape := ⟨3, ![4, 384, 128]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S_ : Shape := ⟨0, ![]⟩
abbrev S1x128x128 : Shape := ⟨3, ![1, 128, 128]⟩
abbrev S128x128 : Shape := ⟨2, ![128, 128]⟩
abbrev S4x384x1 : Shape := ⟨3, ![4, 384, 1]⟩
abbrev S4x1x384 : Shape := ⟨3, ![4, 1, 384]⟩
abbrev S4x384x384 : Shape := ⟨3, ![4, 384, 384]⟩
abbrev S4x384 : Shape := ⟨2, ![4, 384]⟩
abbrev S1x1x128 : Shape := ⟨3, ![1, 1, 128]⟩
abbrev S4x384x256 : Shape := ⟨3, ![4, 384, 256]⟩
abbrev S256x128 : Shape := ⟨2, ![256, 128]⟩
abbrev S512x192 : Shape := ⟨2, ![512, 192]⟩

abbrev nBuf : Space → Nat
  | .hbm => 295
  | .vmem => 0
  | .smem => 0
  | _ => 0

abbrev hbmTy0_0 (i : Nat) : BufTy := match i % 128 with
  | 0 => ⟨S4x128x192, .f32⟩
  | 1 => ⟨S4x128x192, .f32⟩
  | 2 => ⟨S2x128x128, .f32⟩
  | 3 => ⟨S128x1, .f32⟩
  | 4 => ⟨S128x1, .f32⟩
  | 5 => ⟨S128, .f32⟩
  | 6 => ⟨S128x256, .f32⟩
  | 7 => ⟨S128, .f32⟩
  | 8 => ⟨S128, .f32⟩
  | 9 => ⟨S128, .f32⟩
  | 10 => ⟨S2x128x128, .f32⟩
  | 11 => ⟨S128x1, .f32⟩
  | 12 => ⟨S128x1, .f32⟩
  | 13 => ⟨S128, .f32⟩
  | 14 => ⟨S128x256, .f32⟩
  | 15 => ⟨S128, .f32⟩
  | 16 => ⟨S128, .f32⟩
  | 17 => ⟨S128, .f32⟩
  | 18 => ⟨S4x128x384, .f32⟩
  | 19 => ⟨S4x384x128, .f32⟩
  | 20 => ⟨S384, .i32⟩
  | 21 => ⟨S384x1, .i32⟩
  | 22 => ⟨S1x384, .i32⟩
  | 23 => ⟨S384x384, .i32⟩
  | 24 => ⟨S384x384, .i32⟩
  | 25 => ⟨S384x384, .i1⟩
  | 26 => ⟨S384x1, .i32⟩
  | 27 => ⟨S_, .i32⟩
  | 28 => ⟨S384x1, .i32⟩
  | 29 => ⟨S384x1, .i1⟩
  | 30 => ⟨S1x384, .i32⟩
  | 31 => ⟨S_, .i32⟩
  | 32 => ⟨S1x384, .i32⟩
  | 33 => ⟨S1x384, .i1⟩
  | 34 => ⟨S384x384, .i1⟩
  | 35 => ⟨S384x384, .i1⟩
  | 36 => ⟨S384x384, .i1⟩
  | 37 => ⟨S1x128x128, .f32⟩
  | 38 => ⟨S128x128, .f32⟩
  | 39 => ⟨S4x384x128, .f32⟩
  | 40 => ⟨S1x128x128, .f32⟩
  | 41 => ⟨S128x128, .f32⟩
  | 42 => ⟨S4x384x128, .f32⟩
  | 43 => ⟨S4x384x1, .f32⟩
  | 44 => ⟨S4x384x1, .f32⟩
  | 45 => ⟨S4x1x384, .f32⟩
  | 46 => ⟨S4x384x384, .f32⟩
  | 47 => ⟨S4x384x384, .f32⟩
  | 48 => ⟨S4x384x384, .f32⟩
  | 49 => ⟨S4x384x1, .f32⟩
  | 50 => ⟨S4x384x1, .f32⟩
  | 51 => ⟨S4x1x384, .f32⟩
  | 52 => ⟨S4x384x384, .f32⟩
  | 53 => ⟨S4x384x384, .f32⟩
  | 54 => ⟨S4x384x384, .f32⟩
  | 55 => ⟨S4x384x384, .i1⟩
  | 56 => ⟨S4x384x384, .f32⟩
  | 57 => ⟨S_, .f32⟩
  | 58 => ⟨S4x384x384, .f32⟩
  | 59 => ⟨S4x384x384, .i1⟩
  | 60 => ⟨S_, .f32⟩
  | 61 => ⟨S4x384x384, .f32⟩
  | 62 => ⟨S4x384x384, .f32⟩
  | 63 => ⟨S4x384x384, .f32⟩
  | 64 => ⟨S_, .f32⟩
  | 65 => ⟨S_, .f32⟩
  | 66 => ⟨S4x384x384, .i1⟩
  | 67 => ⟨S4x384x384, .f32⟩
  | 68 => ⟨S4x384x384, .f32⟩
  | 69 => ⟨S_, .f32⟩
  | 70 => ⟨S4x384, .f32⟩
  | 71 => ⟨S4x384x1, .f32⟩
  | 72 => ⟨S4x384x1, .f32⟩
  | 73 => ⟨S_, .f32⟩
  | 74 => ⟨S4x384x1, .f32⟩
  | 75 => ⟨S4x384x1, .i1⟩
  | 76 => ⟨S_, .f32⟩
  | 77 => ⟨S_, .f32⟩
  | 78 => ⟨S4x384x1, .f32⟩
  | 79 => ⟨S4x384x1, .f32⟩
  | 80 => ⟨S4x384x384, .f32⟩
  | 81 => ⟨S4x384x384, .f32⟩
  | 82 => ⟨S4x384x384, .f32⟩
  | 83 => ⟨S_, .f32⟩
  | 84 => ⟨S_, .f32⟩
  | 85 => ⟨S4x384x384, .i1⟩
  | 86 => ⟨S4x384x384, .f32⟩
  | 87 => ⟨S4x384x384, .f32⟩
  | 88 => ⟨S_, .f32⟩
  | 89 => ⟨S4x384, .f32⟩
  | 90 => ⟨S4x384x1, .f32⟩
  | 91 => ⟨S_, .f32⟩
  | 92 => ⟨S4x384x1, .f32⟩
  | 93 => ⟨S4x384x1, .f32⟩
  | 94 => ⟨S4x384x384, .f32⟩
  | 95 => ⟨S4x384x384, .f32⟩
  | 96 => ⟨S_, .f32⟩
  | 97 => ⟨S_, .f32⟩
  | 98 => ⟨S4x384x384, .i1⟩
  | 99 => ⟨S4x384x384, .f32⟩
  | 100 => ⟨S4x384x384, .f32⟩
  | 101 => ⟨S4x384x128, .f32⟩
  | 102 => ⟨S_, .f32⟩
  | 103 => ⟨S_, .f32⟩
  | 104 => ⟨S4x384x384, .i1⟩
  | 105 => ⟨S4x384x384, .f32⟩
  | 106 => ⟨S4x384x384, .f32⟩
  | 107 => ⟨S4x384x128, .f32⟩
  | 108 => ⟨S4x384x128, .f32⟩
  | 109 => ⟨S1x1x128, .f32⟩
  | 110 => ⟨S4x384x128, .f32⟩
  | 111 => ⟨S4x384x128, .f32⟩
  | 112 => ⟨S_, .f32⟩
  | 113 => ⟨S4x384x128, .f32⟩
  | 114 => ⟨S4x384x128, .f32⟩
  | 115 => ⟨S4x384x256, .f32⟩
  | 116 => ⟨S256x128, .f32⟩
  | 117 => ⟨S4x384x128, .f32⟩
  | 118 => ⟨S1x1x128, .f32⟩
  | 119 => ⟨S4x384x128, .f32⟩
  | 120 => ⟨S4x384x128, .f32⟩
  | 121 => ⟨S_, .f32⟩
  | 122 => ⟨S128, .f32⟩
  | 123 => ⟨S_, .f32⟩
  | 124 => ⟨S128, .f32⟩
  | 125 => ⟨S128, .f32⟩
  | 126 => ⟨S1x1x128, .f32⟩
  | 127 => ⟨S4x384x128, .f32⟩
  | _ => ⟨S4x128x192, .f32⟩

abbrev hbmTy0_1 (i : Nat) : BufTy := match i % 128 with
  | 0 => ⟨S4x384x128, .f32⟩
  | 1 => ⟨S1x1x128, .f32⟩
  | 2 => ⟨S4x384x128, .f32⟩
  | 3 => ⟨S4x384x128, .f32⟩
  | 4 => ⟨S4x384x128, .f32⟩
  | 5 => ⟨S_, .f32⟩
  | 6 => ⟨S128, .f32⟩
  | 7 => ⟨S_, .f32⟩
  | 8 => ⟨S128, .f32⟩
  | 9 => ⟨S128, .f32⟩
  | 10 => ⟨S1x1x128, .f32⟩
  | 11 => ⟨S4x384x128, .f32⟩
  | 12 => ⟨S4x384x128, .f32⟩
  | 13 => ⟨S_, .f32⟩
  | 14 => ⟨S128, .f32⟩
  | 15 => ⟨S128, .f32⟩
  | 16 => ⟨S128, .f32⟩
  | 17 => ⟨S1x1x128, .f32⟩
  | 18 => ⟨S4x384x128, .f32⟩
  | 19 => ⟨S4x384x128, .f32⟩
  | 20 => ⟨S1x1x128, .f32⟩
  | 21 => ⟨S4x384x128, .f32⟩
  | 22 => ⟨S4x384x128, .f32⟩
  | 23 => ⟨S1x1x128, .f32⟩
  | 24 => ⟨S4x384x128, .f32⟩
  | 25 => ⟨S4x384x128, .f32⟩
  | 26 => ⟨S4x384x128, .f32⟩
  | 27 => ⟨S384, .i32⟩
  | 28 => ⟨S384x1, .i32⟩
  | 29 => ⟨S1x384, .i32⟩
  | 30 => ⟨S384x384, .i32⟩
  | 31 => ⟨S384x384, .i32⟩
  | 32 => ⟨S384x384, .i1⟩
  | 33 => ⟨S384x1, .i32⟩
  | 34 => ⟨S_, .i32⟩
  | 35 => ⟨S384x1, .i32⟩
  | 36 => ⟨S384x1, .i1⟩
  | 37 => ⟨S1x384, .i32⟩
  | 38 => ⟨S_, .i32⟩
  | 39 => ⟨S1x384, .i32⟩
  | 40 => ⟨S1x384, .i1⟩
  | 41 => ⟨S384x384, .i1⟩
  | 42 => ⟨S384x384, .i1⟩
  | 43 => ⟨S384x384, .i1⟩
  | 44 => ⟨S1x128x128, .f32⟩
  | 45 => ⟨S128x128, .f32⟩
  | 46 => ⟨S4x384x128, .f32⟩
  | 47 => ⟨S1x128x128, .f32⟩
  | 48 => ⟨S128x128, .f32⟩
  | 49 => ⟨S4x384x128, .f32⟩
  | 50 => ⟨S4x384x1, .f32⟩
  | 51 => ⟨S4x384x1, .f32⟩
  | 52 => ⟨S4x1x384, .f32⟩
  | 53 => ⟨S4x384x384, .f32⟩
  | 54 => ⟨S4x384x384, .f32⟩
  | 55 => ⟨S4x384x384, .f32⟩
  | 56 => ⟨S4x384x1, .f32⟩
  | 57 => ⟨S4x384x1, .f32⟩
  | 58 => ⟨S4x1x384, .f32⟩
  | 59 => ⟨S4x384x384, .f32⟩
  | 60 => ⟨S4x384x384, .f32⟩
  | 61 => ⟨S4x384x384, .f32⟩
  | 62 => ⟨S4x384x384, .i1⟩
  | 63 => ⟨S4x384x384, .f32⟩
  | 64 => ⟨S_, .f32⟩
  | 65 => ⟨S4x384x384, .f32⟩
  | 66 => ⟨S4x384x384, .i1⟩
  | 67 => ⟨S_, .f32⟩
  | 68 => ⟨S4x384x384, .f32⟩
  | 69 => ⟨S4x384x384, .f32⟩
  | 70 => ⟨S4x384x384, .f32⟩
  | 71 => ⟨S_, .f32⟩
  | 72 => ⟨S_, .f32⟩
  | 73 => ⟨S4x384x384, .i1⟩
  | 74 => ⟨S4x384x384, .f32⟩
  | 75 => ⟨S4x384x384, .f32⟩
  | 76 => ⟨S_, .f32⟩
  | 77 => ⟨S4x384, .f32⟩
  | 78 => ⟨S4x384x1, .f32⟩
  | 79 => ⟨S4x384x1, .f32⟩
  | 80 => ⟨S_, .f32⟩
  | 81 => ⟨S4x384x1, .f32⟩
  | 82 => ⟨S4x384x1, .i1⟩
  | 83 => ⟨S_, .f32⟩
  | 84 => ⟨S_, .f32⟩
  | 85 => ⟨S4x384x1, .f32⟩
  | 86 => ⟨S4x384x1, .f32⟩
  | 87 => ⟨S4x384x384, .f32⟩
  | 88 => ⟨S4x384x384, .f32⟩
  | 89 => ⟨S4x384x384, .f32⟩
  | 90 => ⟨S_, .f32⟩
  | 91 => ⟨S_, .f32⟩
  | 92 => ⟨S4x384x384, .i1⟩
  | 93 => ⟨S4x384x384, .f32⟩
  | 94 => ⟨S4x384x384, .f32⟩
  | 95 => ⟨S_, .f32⟩
  | 96 => ⟨S4x384, .f32⟩
  | 97 => ⟨S4x384x1, .f32⟩
  | 98 => ⟨S_, .f32⟩
  | 99 => ⟨S4x384x1, .f32⟩
  | 100 => ⟨S4x384x1, .f32⟩
  | 101 => ⟨S4x384x384, .f32⟩
  | 102 => ⟨S4x384x384, .f32⟩
  | 103 => ⟨S_, .f32⟩
  | 104 => ⟨S_, .f32⟩
  | 105 => ⟨S4x384x384, .i1⟩
  | 106 => ⟨S4x384x384, .f32⟩
  | 107 => ⟨S4x384x384, .f32⟩
  | 108 => ⟨S4x384x128, .f32⟩
  | 109 => ⟨S_, .f32⟩
  | 110 => ⟨S_, .f32⟩
  | 111 => ⟨S4x384x384, .i1⟩
  | 112 => ⟨S4x384x384, .f32⟩
  | 113 => ⟨S4x384x384, .f32⟩
  | 114 => ⟨S4x384x128, .f32⟩
  | 115 => ⟨S4x384x128, .f32⟩
  | 116 => ⟨S1x1x128, .f32⟩
  | 117 => ⟨S4x384x128, .f32⟩
  | 118 => ⟨S4x384x128, .f32⟩
  | 119 => ⟨S_, .f32⟩
  | 120 => ⟨S4x384x128, .f32⟩
  | 121 => ⟨S4x384x128, .f32⟩
  | 122 => ⟨S4x384x256, .f32⟩
  | 123 => ⟨S256x128, .f32⟩
  | 124 => ⟨S4x384x128, .f32⟩
  | 125 => ⟨S1x1x128, .f32⟩
  | 126 => ⟨S4x384x128, .f32⟩
  | 127 => ⟨S4x384x128, .f32⟩
  | _ => ⟨S4x128x192, .f32⟩

abbrev hbmTy0_2 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x1x128, .f32⟩
  | 6 => ⟨S4x384x128, .f32⟩
  | 7 => ⟨S4x384x128, .f32⟩
  | 8 => ⟨S1x1x128, .f32⟩
  | 9 => ⟨S4x384x128, .f32⟩
  | 10 => ⟨S4x384x128, .f32⟩
  | 11 => ⟨S4x384x128, .f32⟩
  | 12 => ⟨S_, .f32⟩
  | 13 => ⟨S128, .f32⟩
  | 14 => ⟨S_, .f32⟩
  | 15 => ⟨S128, .f32⟩
  | 16 => ⟨S128, .f32⟩
  | 17 => ⟨S1x1x128, .f32⟩
  | 18 => ⟨S4x384x128, .f32⟩
  | 19 => ⟨S4x384x128, .f32⟩
  | 20 => ⟨S_, .f32⟩
  | 21 => ⟨S128, .f32⟩
  | 22 => ⟨S128, .f32⟩
  | 23 => ⟨S128, .f32⟩
  | 24 => ⟨S1x1x128, .f32⟩
  | 25 => ⟨S4x384x128, .f32⟩
  | 26 => ⟨S4x384x128, .f32⟩
  | 27 => ⟨S1x1x128, .f32⟩
  | 28 => ⟨S4x384x128, .f32⟩
  | 29 => ⟨S4x384x128, .f32⟩
  | 30 => ⟨S1x1x128, .f32⟩
  | 31 => ⟨S4x384x128, .f32⟩
  | 32 => ⟨S4x384x128, .f32⟩
  | 33 => ⟨S4x384x128, .f32⟩
  | 34 => ⟨S4x128x384, .f32⟩
  | 35 => ⟨S4x128x192, .f32⟩
  | 36 => ⟨S512x192, .f32⟩
  | 37 => ⟨S4x128x192, .f32⟩
  | 38 => ⟨S512x192, .f32⟩
  | _ => ⟨S4x128x192, .f32⟩

abbrev hbmTy (i : Nat) : BufTy := match i / 128 with
  | 0 => hbmTy0_0 i
  | 1 => hbmTy0_1 i
  | 2 => hbmTy0_2 i
  | _ => ⟨S4x128x192, .f32⟩

abbrev bufTy : (tb : Table) → Fin (tcTables nBuf tb) → BufTy
  | .hbm, ⟨i, _⟩ => hbmTy i
  | _, _ => ⟨S4x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v41 : Ref sig .tc := ⟨.hbm, 68, rfl⟩
abbrev main_cst_3 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_9 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v58 : Ref sig .tc := ⟨.hbm, 100, rfl⟩
abbrev main_v59 : Ref sig .tc := ⟨.hbm, 101, rfl⟩
abbrev main_cst_10 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_12 : Ref sig .tc := ⟨.hbm, 121, rfl⟩
abbrev main_v74 : Ref sig .tc := ⟨.hbm, 122, rfl⟩
abbrev main_cst_13 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_14 : Ref sig .tc := ⟨.hbm, 133, rfl⟩
abbrev main_v84 : Ref sig .tc := ⟨.hbm, 134, rfl⟩
abbrev main_cst_15 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_c_17 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_18 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_call7_v0 : Ref sig .tc := ⟨.hbm, 190, rfl⟩
abbrev main_v136 : Ref sig .tc := ⟨.hbm, 191, rfl⟩
abbrev main_cst_19 : Ref sig .tc := ⟨.hbm, 192, rfl⟩
abbrev main_v137 : Ref sig .tc := ⟨.hbm, 193, rfl⟩
abbrev main_v138 : Ref sig .tc := ⟨.hbm, 194, rfl⟩
abbrev main_cst_20 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_21 : Ref sig .tc := ⟨.hbm, 199, rfl⟩
abbrev main_call9_v0 : Ref sig .tc := ⟨.hbm, 200, rfl⟩
abbrev main_call9_v1 : Ref sig .tc := ⟨.hbm, 201, rfl⟩
abbrev main_call9_v2 : Ref sig .tc := ⟨.hbm, 202, rfl⟩
abbrev main_v142 : Ref sig .tc := ⟨.hbm, 203, rfl⟩
abbrev main_cst_22 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_23 : Ref sig .tc := ⟨.hbm, 208, rfl⟩
abbrev main_v146 : Ref sig .tc := ⟨.hbm, 209, rfl⟩
abbrev main_v147 : Ref sig .tc := ⟨.hbm, 210, rfl⟩
abbrev main_cst_24 : Ref sig .tc := ⟨.hbm, 211, rfl⟩
abbrev main_call10_v0 : Ref sig .tc := ⟨.hbm, 212, rfl⟩
abbrev main_call10_v1 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_cst_25 : Ref sig .tc := ⟨.hbm, 218, rfl⟩
abbrev main_call11_v0 : Ref sig .tc := ⟨.hbm, 219, rfl⟩
abbrev main_call11_v1 : Ref sig .tc := ⟨.hbm, 220, rfl⟩
abbrev main_call11_v2 : Ref sig .tc := ⟨.hbm, 221, rfl⟩
abbrev main_v152 : Ref sig .tc := ⟨.hbm, 222, rfl⟩
abbrev main_cst_26 : Ref sig .tc := ⟨.hbm, 223, rfl⟩
abbrev main_v153 : Ref sig .tc := ⟨.hbm, 224, rfl⟩
abbrev main_v154 : Ref sig .tc := ⟨.hbm, 225, rfl⟩
abbrev main_cst_27 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_28 : Ref sig .tc := ⟨.hbm, 231, rfl⟩
abbrev main_call12_v0 : Ref sig .tc := ⟨.hbm, 232, rfl⟩
abbrev main_call12_v1 : Ref sig .tc := ⟨.hbm, 233, rfl⟩
abbrev main_call12_v2 : Ref sig .tc := ⟨.hbm, 234, rfl⟩
abbrev main_v159 : Ref sig .tc := ⟨.hbm, 235, rfl⟩
abbrev main_v160 : Ref sig .tc := ⟨.hbm, 236, rfl⟩
abbrev main_cst_29 : Ref sig .tc := ⟨.hbm, 237, rfl⟩
abbrev main_call13_v0 : Ref sig .tc := ⟨.hbm, 238, rfl⟩
abbrev main_call13_v1 : Ref sig .tc := ⟨.hbm, 239, rfl⟩
abbrev main_call13_v2 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_cst_30 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_cst_31 : Ref sig .tc := ⟨.hbm, 256, rfl⟩
abbrev main_v175 : Ref sig .tc := ⟨.hbm, 257, rfl⟩
abbrev main_cst_32 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_33 : Ref sig .tc := ⟨.hbm, 268, rfl⟩
abbrev main_v185 : Ref sig .tc := ⟨.hbm, 269, rfl⟩
abbrev main_cst_34 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_35 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩

abbrev nD : Nat := 1
abbrev τ : Topo := Topo.v7x

variable {F : FTy → Type} [FloatOps F]
-- ==== Proof.Tiles.lean ====
/- The kernel's arithmetic on one tile, named: `tile b t` is graph `b`'s nodes of set `t` as columns, and a
   layer maps the eight tiles to eight tiles. Every definition is the printed operations, at any float type. -/
module

public import proofs.«01_k».proof.Proof.Gen.KernelIdeal.Frame

@[expose] public section

noncomputable section

namespace Cert.Proof.Tiles

open Idealize.ShloMosaic Idealize.SL.Sem Cert.KernelIdeal Cert.KernelIdeal.Gen

variable {F : FTy → Type} [FloatOps F] [Named F]

/-- Off the diagonal of a 192 by 192 tile. -/
def notDiag : IVec S192x192 1 :=
  cmpi .ne (iota .tc S192x192 32 [0] iota_S192x192_d0_w32) (iota .tc S192x192 32 [1] iota_S192x192_d1_w32)

/-- One layer's parameters as the kernel reads them: two relation weights, the two halves of the linear
    map, and six columns. -/
structure Par (F : FTy → Type) where
  w0 : FVec F S128x128 .f32
  w1 : FVec F S128x128 .f32
  la : FVec F S128x128 .f32
  lw : FVec F S128x128 .f32
  bc : FVec F S128x1 .f32
  lb : FVec F S128x1 .f32
  ga : FVec F S128x1 .f32
  be : FVec F S128x1 .f32
  q : FVec F S128x1 .f32
  k : FVec F S128x1 .f32

/-- A layer's parameters from its three blocks. -/
def par (w : Vec F S256x128 .f32) (l : Vec F S128x256 .f32) (v : Vec F S128x8 .f32) : Par F where
  w0 := shapeCast S128x128 (View.ld w r0_5) shapeCasts_S128x128_S128x128
  w1 := shapeCast S128x128 (View.ld w r0_6) shapeCasts_S128x128_S128x128
  la := View.ld l r0_7
  lw := View.ld l r0_8
  bc := extractStridedSlice S128x1 ![0, 0] (shapeCast S128x8 (View.ld v r0_4) shapeCasts_S128x8_S128x8) slices_S128x8_o0_0_S128x1
  lb := extractStridedSlice S128x1 ![0, 1] (shapeCast S128x8 (View.ld v r0_4) shapeCasts_S128x8_S128x8) slices_S128x8_o0_1_S128x1
  ga := extractStridedSlice S128x1 ![0, 2] (shapeCast S128x8 (View.ld v r0_4) shapeCasts_S128x8_S128x8) slices_S128x8_o0_2_S128x1
  be := extractStridedSlice S128x1 ![0, 3] (shapeCast S128x8 (View.ld v r0_4) shapeCasts_S128x8_S128x8) slices_S128x8_o0_3_S128x1
  q := extractStridedSlice S128x1 ![0, 4] (shapeCast S128x8 (View.ld v r0_4) shapeCasts_S128x8_S128x8) slices_S128x8_o0_4_S128x1
  k := extractStridedSlice S128x1 ![0, 5] (shapeCast S128x8 (View.ld v r0_4) shapeCasts_S128x8_S128x8) slices_S128x8_o0_5_S128x1

/-- The eight input tiles. -/
def tile (x0 x1 : Vec F S512x192 .f32) (b : Fin 4) (t : Fin 2) : FVec F S128x192 .f32 :=
  match b, t with
  | 0, 0 => shapeCast S128x192 (View.ld x0 r0_0) shapeCasts_S128x192_S128x192
  | 0, 1 => shapeCast S128x192 (View.ld x1 r0_0) shapeCasts_S128x192_S128x192
  | 1, 0 => shapeCast S128x192 (View.ld x0 r0_1) shapeCasts_S128x192_S128x192
  | 1, 1 => shapeCast S128x192 (View.ld x1 r0_1) shapeCasts_S128x192_S128x192
  | 2, 0 => shapeCast S128x192 (View.ld x0 r0_2) shapeCasts_S128x192_S128x192
  | 2, 1 => shapeCast S128x192 (View.ld x1 r0_2) shapeCasts_S128x192_S128x192
  | 3, 0 => shapeCast S128x192 (View.ld x0 r0_3) shapeCasts_S128x192_S128x192
  | 3, 1 => shapeCast S128x192 (View.ld x1 r0_3) shapeCasts_S128x192_S128x192

/-- A tile under a relation's weight. -/
def xw (w : FVec F S128x128 .f32) (x : FVec F S128x192 .f32) : FVec F S128x192 .f32 :=
  matmul dot_S128x128_S128x192_S128x192_0_0_1_1_n_n none w x (constant S128x192 .f32 0x00000000#32)

def qi (x : FVec F S128x192 .f32) (q : FVec F S128x1 .f32) : FVec F S192x1 .f32 :=
  matmul dot_S128x192_S128x1_S192x1_0_0_1_1_n_n none x q (constant S192x1 .f32 0x00000000#32)

def kj (k : FVec F S128x1 .f32) (x : FVec F S128x192 .f32) : FVec F S1x192 .f32 :=
  matmul dot_S128x1_S128x192_S1x192_0_0_1_1_n_n none k x (constant S1x192 .f32 0x00000000#32)

/-- The attention logits from tile `y`'s nodes to tile `x`'s, before the leaky rectifier. -/
def presum (w : FVec F S128x128 .f32) (q k : FVec F S128x1 .f32) (x y : FVec F S128x192 .f32) : FVec F S192x192 .f32 :=
  addf (broadcastTo S192x192 (qi (xw w x) q) broadcasts_S192x1_S192x192)
    (broadcastTo S192x192 (kj k (xw w y)) broadcasts_S1x192_S192x192)

def leaky (z : FVec F S192x192 .f32) : FVec F S192x192 .f32 :=
  select (cmpf .oge z (broadcast S192x192 (Scalar.ofBits .f32 0x00000000#32))) z
    (mulf (broadcast S192x192 (Scalar.ofBits .f32 0x3E4CCCCD#32)) z)

def logit (w : FVec F S128x128 .f32) (q k : FVec F S128x1 .f32) (x y : FVec F S128x192 .f32) : FVec F S192x192 .f32 :=
  leaky (presum w q k x y)

/-- A row's greatest logit, over its own tile off the diagonal and over the other tile. -/
def amax (ls lc : FVec F S192x192 .f32) : FVec F S192x1 .f32 :=
  maximumf
    (shapeCast S192x1 (multiReduction .maximumf [1] S192
      (select notDiag ls (broadcast S192x192 (Named.named κ "mask" 0xF149F2CA#32)))
      0xFF800000#32 reduces_S192x192_S192 (.inl rfl) rfl) shapeCasts_S192_S192x1)
    (shapeCast S192x1 (multiReduction .maximumf [1] S192 lc 0xFF800000#32 reduces_S192x192_S192 (.inl rfl) rfl)
      shapeCasts_S192_S192x1)

def exS (ls lc : FVec F S192x192 .f32) : FVec F S192x192 .f32 :=
  select notDiag (exp (subf ls (broadcastTo S192x192 (amax ls lc) broadcasts_S192x1_S192x192)))
    (broadcast S192x192 (Scalar.ofBits .f32 0x00000000#32))

def exC (ls lc : FVec F S192x192 .f32) : FVec F S192x192 .f32 :=
  exp (subf lc (broadcastTo S192x192 (amax ls lc) broadcasts_S192x1_S192x192))

def den (ls lc : FVec F S192x192 .f32) : FVec F S192x1 .f32 :=
  addf (addf
    (shapeCast S192x1 (multiReduction .add [1] S192 (exS ls lc) 0x00000000#32 reduces_S192x192_S192 (.inl rfl) rfl) shapeCasts_S192_S192x1)
    (shapeCast S192x1 (multiReduction .add [1] S192 (exC ls lc) 0x00000000#32 reduces_S192x192_S192 (.inl rfl) rfl) shapeCasts_S192_S192x1))
    (broadcast S192x1 (Scalar.ofBits .f32 0x24E69595#32))

def prS (ls lc : FVec F S192x192 .f32) : FVec F S192x192 .f32 :=
  divf (exS ls lc) (broadcastTo S192x192 (den ls lc) broadcasts_S192x1_S192x192)

def prC (ls lc : FVec F S192x192 .f32) : FVec F S192x192 .f32 :=
  divf (exC ls lc) (broadcastTo S192x192 (den ls lc) broadcasts_S192x1_S192x192)

/-- The messages summed at tile `x`'s nodes, `y` the graph's other tile. -/
def aggr (p : Par F) (x y : FVec F S128x192 .f32) : FVec F S128x192 .f32 :=
  addf
    (matmul dot_S128x192_S192x192_S128x192_1_1_0_0_n_n none (xw p.w0 x)
      (prS (logit p.w0 p.q p.k x x) (logit p.w1 p.q p.k x y)) (constant S128x192 .f32 0x00000000#32))
    (matmul dot_S128x192_S192x192_S128x192_1_1_0_0_n_n none (xw p.w1 y)
      (prC (logit p.w0 p.q p.k x x) (logit p.w1 p.q p.k x y)) (constant S128x192 .f32 0x00000000#32))

def bcol (v : FVec F S128x1 .f32) : FVec F S128x192 .f32 := broadcastTo S128x192 v broadcasts_S128x1_S128x192

def m2 (p : Par F) (x y : FVec F S128x192 .f32) : FVec F S128x192 .f32 :=
  addf (addf
    (matmul dot_S128x128_S128x192_S128x192_1_0_0_1_n_n none p.la x (constant S128x192 .f32 0x00000000#32))
    (matmul dot_S128x128_S128x192_S128x192_1_0_0_1_n_n none p.lw
      (maximumf (addf (aggr p x y) (bcol p.bc)) (broadcast S128x192 (Scalar.ofBits .f32 0x00000000#32)))
      (constant S128x192 .f32 0x00000000#32)))
    (bcol p.lb)

def rowSum (v : FVec F S128x192 .f32) : FVec F S128x1 .f32 :=
  shapeCast S128x1 (multiReduction .add [1] S128 v 0x00000000#32 reduces_S128x192_S128 (.inl rfl) rfl) shapeCasts_S128_S128x1

/-- The eight tiles' row sums, added in order. -/
def sum8 (f : Fin 4 → Fin 2 → FVec F S128x192 .f32) : FVec F S128x1 .f32 :=
  addf (addf (addf (addf (addf (addf (addf (rowSum (f 0 0)) (rowSum (f 0 1))) (rowSum (f 1 0))) (rowSum (f 1 1)))
    (rowSum (f 2 0))) (rowSum (f 2 1))) (rowSum (f 3 0))) (rowSum (f 3 1))

/-- The other tile of a graph. -/
def other (t : Fin 2) : Fin 2 := match t with | 0 => 1 | 1 => 0

def m2f (p : Par F) (x : Fin 4 → Fin 2 → FVec F S128x192 .f32) (b : Fin 4) (t : Fin 2) : FVec F S128x192 .f32 :=
  m2 p (x b t) (x b (other t))

def mean (p : Par F) (x : Fin 4 → Fin 2 → FVec F S128x192 .f32) : FVec F S128x1 .f32 :=
  mulf (sum8 (m2f p x)) (broadcast S128x1 (Named.named κ "inv_tot" 0x3A2AAAAB#32))

def cent (p : Par F) (x : Fin 4 → Fin 2 → FVec F S128x192 .f32) (b : Fin 4) (t : Fin 2) : FVec F S128x192 .f32 :=
  subf (m2f p x b t) (bcol (mean p x))

def scale (p : Par F) (x : Fin 4 → Fin 2 → FVec F S128x192 .f32) : FVec F S128x1 .f32 :=
  mulf (rsqrt (addf (mulf (sum8 fun b t => mulf (cent p x b t) (cent p x b t))
      (broadcast S128x1 (Named.named κ "inv_tot" 0x3A2AAAAB#32)))
    (broadcast S128x1 (Scalar.ofBits .f32 0x3727C5AC#32)))) p.ga

/-- One layer. -/
def layer (p : Par F) (x : Fin 4 → Fin 2 → FVec F S128x192 .f32) (b : Fin 4) (t : Fin 2) : FVec F S128x192 .f32 :=
  addf (addf (x b t) (mulf (cent p x b t) (bcol (scale p x)))) (bcol p.be)

/-- The tiles between the two layers. -/
def mid (x0 x1 : Vec F S512x192 .f32) (x2 : Vec F S256x128 .f32) (x3 : Vec F S128x256 .f32) (x4 : Vec F S128x8 .f32) :
    Fin 4 → Fin 2 → FVec F S128x192 .f32 :=
  layer (par x2 x3 x4) (tile x0 x1)

end Cert.Proof.Tiles

end
-- ==== Proof.Spec.lean ====
/- The network on the extended reals, graph by graph, each graph's nodes in its two sets of 192. -/
module

public import Idealize.ShloMosaic.PureOps.Ideal.Laws

@[expose] public section

noncomputable section

namespace Cert.Proof.Spec

open Idealize.ShloMosaic

/-- One layer's parameters. -/
structure Lay where
  w0 : Fin 128 → Fin 128 → EReal
  w1 : Fin 128 → Fin 128 → EReal
  la : Fin 128 → Fin 128 → EReal
  lw : Fin 128 → Fin 128 → EReal
  bc : Fin 128 → EReal
  lb : Fin 128 → EReal
  ga : Fin 128 → EReal
  be : Fin 128 → EReal
  q : Fin 128 → EReal
  k : Fin 128 → EReal

/-- The features of a set's nodes. -/
abbrev Feat := Fin 192 → Fin 128 → EReal

/-- The leaky rectifier's slope, the softmax's guard and the batch norm's, as the programs write them. -/
def slope : EReal := Ideal.ofBits .f32 0x3E4CCCCD#32
def tiny : EReal := Ideal.ofBits .f32 0x24E69595#32
def eps : EReal := Ideal.ofBits .f32 0x3727C5AC#32
def inv : EReal := ((1 / 1536 : ℝ) : EReal)

def lk (z : EReal) : EReal := if 0 ≤ z then z else slope * z

def xw (w : Fin 128 → Fin 128 → EReal) (x : Feat) (s : Fin 192) (o : Fin 128) : EReal := ∑ f, w f o * x s f

def logit (w : Fin 128 → Fin 128 → EReal) (q k : Fin 128 → EReal) (x y : Feat) (s s' : Fin 192) : EReal :=
  lk ((∑ o, xw w x s o * q o) + ∑ o, k o * xw w y s' o)

/-- A row's greatest logit: over its own set off the diagonal, and over the other set. -/
def amax (ls lc : Fin 192 → Fin 192 → EReal) (s : Fin 192) : EReal :=
  max (Finset.univ.fold max ⊥ fun s' => if s ≠ s' then ls s s' else ⊥) (Finset.univ.fold max ⊥ fun s' => lc s s')

def exS (ls lc : Fin 192 → Fin 192 → EReal) (s s' : Fin 192) : EReal :=
  if s ≠ s' then Ideal.exp (ls s s' - amax ls lc s) else 0

def exC (ls lc : Fin 192 → Fin 192 → EReal) (s s' : Fin 192) : EReal := Ideal.exp (lc s s' - amax ls lc s)

def den (ls lc : Fin 192 → Fin 192 → EReal) (s : Fin 192) : EReal :=
  (∑ s', exS ls lc s s') + (∑ s', exC ls lc s s') + tiny

def aggr (p : Lay) (x y : Feat) (s : Fin 192) (f : Fin 128) : EReal :=
  (∑ s', xw p.w0 x s' f * Ideal.div (exS (logit p.w0 p.q p.k x x) (logit p.w1 p.q p.k x y) s s')
      (den (logit p.w0 p.q p.k x x) (logit p.w1 p.q p.k x y) s))
    + ∑ s', xw p.w1 y s' f * Ideal.div (exC (logit p.w0 p.q p.k x x) (logit p.w1 p.q p.k x y) s s')
      (den (logit p.w0 p.q p.k x x) (logit p.w1 p.q p.k x y) s)

def m2 (p : Lay) (x y : Feat) (s : Fin 192) (o : Fin 128) : EReal :=
  (∑ f, p.la o f * x s f) + (∑ f, p.lw o f * max (aggr p x y s f + p.bc f) 0) + p.lb o

/-- The other set of a graph. -/
def other (t : Fin 2) : Fin 2 := match t with | 0 => 1 | 1 => 0

def m2f (p : Lay) (x : Fin 4 → Fin 2 → Feat) (b : Fin 4) (t : Fin 2) : Fin 192 → Fin 128 → EReal :=
  m2 p (x b t) (x b (other t))

def total (v : Fin 4 → Fin 2 → Feat) (f : Fin 128) : EReal := ∑ b, ∑ t, ∑ s, v b t s f

def cent (p : Lay) (x : Fin 4 → Fin 2 → Feat) (b : Fin 4) (t : Fin 2) (s : Fin 192) (f : Fin 128) : EReal :=
  m2f p x b t s f - total (m2f p x) f * inv

def var (p : Lay) (x : Fin 4 → Fin 2 → Feat) (f : Fin 128) : EReal :=
  total (fun b t s f => cent p x b t s f * cent p x b t s f) f * inv + eps

/-- One layer: the residual and the batch norm of the linear map's result. -/
def layer (p : Lay) (x : Fin 4 → Fin 2 → Feat) (b : Fin 4) (t : Fin 2) (s : Fin 192) (f : Fin 128) : EReal :=
  x b t s f + cent p x b t s f * (Ideal.rsqrt (var p x f) * p.ga f) + p.be f

end Cert.Proof.Spec

end
-- ==== Proof.KernelRead.lean ====
/- The kernel's tile functions read at an element: a layer of tiles is `Spec.layer`. -/
module

public import proofs.«01_k».proof.Proof.Tiles
public import proofs.«01_k».proof.Proof.Spec
public import Idealize.ShloMosaic.Lib.ValueIdx
public import Idealize.ShloMosaic.Lib.WordCmp
public import Idealize.ShloMosaic.Lib.Pipeline.Value
public import Idealize.ShloMosaic.PureOps.IdealRules

@[expose] public section

noncomputable section

namespace Cert.Proof.Tiles

open Idealize.ShloMosaic Idealize.SL.Sem Cert.KernelIdeal Cert.KernelIdeal.Gen ValueIdx

theorem xw_apply (w : FVec Ideal S128x128 .f32) (x : FVec Ideal S128x192 .f32) (o : Fin 128) (s : Fin 192) :
    xw w x (ix2 o s) = ∑ f : Fin 128, w (ix2 f o) * x (ix2 f s) := by
  unfold xw
  simp only [matmul]
  rw [Ideal.matmul_constant_zero_apply,
    ← Equiv.sum_comp (contrEquiv1 dot_S128x128_S128x192_S128x192_0_0_1_1_n_n 128 rfl rfl).symm]
  refine Finset.sum_congr rfl fun k _ => ?_
  have hk := contrEquiv1_symm_val dot_S128x128_S128x192_S128x192_0_0_1_1_n_n 128 rfl rfl k
  exact congrArg₂ (fun a b => w a * x b) (Shape.idx_ext₂ hk rfl) (Shape.idx_ext₂ hk rfl)

theorem qi_apply (x : FVec Ideal S128x192 .f32) (q : FVec Ideal S128x1 .f32) (s : Fin 192) :
    qi x q (ix2 s 0) = ∑ o : Fin 128, x (ix2 o s) * q (ix2 o 0) := by
  unfold qi
  simp only [matmul]
  rw [Ideal.matmul_constant_zero_apply,
    ← Equiv.sum_comp (contrEquiv1 dot_S128x192_S128x1_S192x1_0_0_1_1_n_n 128 rfl rfl).symm]
  refine Finset.sum_congr rfl fun k _ => ?_
  have hk := contrEquiv1_symm_val dot_S128x192_S128x1_S192x1_0_0_1_1_n_n 128 rfl rfl k
  exact congrArg₂ (fun a b => x a * q b) (Shape.idx_ext₂ hk rfl) (Shape.idx_ext₂ hk rfl)

theorem kj_apply (k : FVec Ideal S128x1 .f32) (x : FVec Ideal S128x192 .f32) (s : Fin 192) :
    kj k x (ix2 0 s) = ∑ o : Fin 128, k (ix2 o 0) * x (ix2 o s) := by
  unfold kj
  simp only [matmul]
  rw [Ideal.matmul_constant_zero_apply,
    ← Equiv.sum_comp (contrEquiv1 dot_S128x1_S128x192_S1x192_0_0_1_1_n_n 128 rfl rfl).symm]
  refine Finset.sum_congr rfl fun i _ => ?_
  have hk := contrEquiv1_symm_val dot_S128x1_S128x192_S1x192_0_0_1_1_n_n 128 rfl rfl i
  exact congrArg₂ (fun a b => k a * x b) (Shape.idx_ext₂ hk rfl) (Shape.idx_ext₂ hk rfl)

/-- The messages' product: a tile's columns weighted along a row of the attention. -/
theorem dotRows_apply (x : FVec Ideal S128x192 .f32) (p : FVec Ideal S192x192 .f32) (f : Fin 128) (s : Fin 192) :
    matmul dot_S128x192_S192x192_S128x192_1_1_0_0_n_n none x p (constant S128x192 .f32 0x00000000#32) (ix2 f s)
      = ∑ s' : Fin 192, x (ix2 f s') * p (ix2 s s') := by
  simp only [matmul]
  rw [Ideal.matmul_constant_zero_apply,
    ← Equiv.sum_comp (contrEquiv1 dot_S128x192_S192x192_S128x192_1_1_0_0_n_n 192 rfl rfl).symm]
  refine Finset.sum_congr rfl fun i _ => ?_
  have hk := contrEquiv1_symm_val dot_S128x192_S192x192_S128x192_1_1_0_0_n_n 192 rfl rfl i
  exact congrArg₂ (fun a b => x a * p b) (Shape.idx_ext₂ rfl hk) (Shape.idx_ext₂ rfl hk)

theorem lin_apply (l : FVec Ideal S128x128 .f32) (x : FVec Ideal S128x192 .f32) (o : Fin 128) (s : Fin 192) :
    matmul dot_S128x128_S128x192_S128x192_1_0_0_1_n_n none l x (constant S128x192 .f32 0x00000000#32) (ix2 o s)
      = ∑ f : Fin 128, l (ix2 o f) * x (ix2 f s) := by
  simp only [matmul]
  rw [Ideal.matmul_constant_zero_apply,
    ← Equiv.sum_comp (contrEquiv1 dot_S128x128_S128x192_S128x192_1_0_0_1_n_n 128 rfl rfl).symm]
  refine Finset.sum_congr rfl fun i _ => ?_
  have hk := contrEquiv1_symm_val dot_S128x128_S128x192_S128x192_1_0_0_1_n_n 128 rfl rfl i
  exact congrArg₂ (fun a b => l a * x b) (Shape.idx_ext₂ rfl hk) (Shape.idx_ext₂ hk rfl)

theorem bcol_apply (v : FVec Ideal S128x1 .f32) (f : Fin 128) (s : Fin 192) : bcol v (ix2 f s) = v (ix2 f 0) :=
  broadcastTo_apply v broadcasts_S128x1_S128x192 (ix2 f s) (ix2 f 0) (fun a => match a with | ⟨0, _⟩ => rfl | ⟨1, _⟩ => rfl)

theorem rowSum_apply (v : FVec Ideal S128x192 .f32) (f : Fin 128) : rowSum v (ix2 f 0) = ∑ s : Fin 192, v (ix2 f s) := by
  unfold rowSum
  rw [shapeCast_apply _ shapeCasts_S128_S128x1 (ix2 f 0) (ix1 f) rfl]
  refine (Ideal.multiReduction_add_single v _ _ _ _ _).trans ?_
  exact Finset.sum_congr rfl fun s _ => congrArg v (Shape.idx_ext₂ rfl rfl)

/-- A row of the attention, summed. -/
theorem sumRow_apply (v : FVec Ideal S192x192 .f32) (s : Fin 192) :
    shapeCast S192x1 (multiReduction .add [1] S192 v 0x00000000#32 reduces_S192x192_S192 (.inl rfl) rfl)
      shapeCasts_S192_S192x1 (ix2 s 0) = ∑ s' : Fin 192, v (ix2 s s') := by
  rw [shapeCast_apply _ shapeCasts_S192_S192x1 (ix2 s 0) (ix1 s) rfl]
  refine (Ideal.multiReduction_add_single v _ _ _ _ _).trans ?_
  exact Finset.sum_congr rfl fun s _ => congrArg v (Shape.idx_ext₂ rfl rfl)

/-- A row of the logits, its maximum. -/
theorem maxRow_apply (v : FVec Ideal S192x192 .f32) (s : Fin 192) :
    shapeCast S192x1 (multiReduction .maximumf [1] S192 v 0xFF800000#32 reduces_S192x192_S192 (.inl rfl) rfl)
      shapeCasts_S192_S192x1 (ix2 s 0) = Finset.univ.fold max ⊥ fun s' : Fin 192 => v (ix2 s s') := by
  rw [shapeCast_apply _ shapeCasts_S192_S192x1 (ix2 s 0) (ix1 s) rfl]
  refine (Ideal.multiReduction_maximumf_single v _ _ _ _ _).trans ?_
  have hb : Ideal.ofBits .f32 0xFF800000#32 = ⊥ := by
    simp [Ideal.ofBits, Ideal.ieee]
  show Finset.univ.fold max (Ideal.ofBits .f32 0xFF800000#32) _ = _
  rw [hb]
  exact congrArg (Finset.univ.fold max ⊥) (funext fun s' => congrArg v (Shape.idx_ext₂ rfl rfl))

theorem acrossRow_apply (v : FVec Ideal S192x1 .f32) (s s' : Fin 192) :
    broadcastTo S192x192 v broadcasts_S192x1_S192x192 (ix2 s s') = v (ix2 s 0) :=
  broadcastTo_apply v broadcasts_S192x1_S192x192 (ix2 s s') (ix2 s 0) (fun a => match a with | ⟨0, _⟩ => rfl | ⟨1, _⟩ => rfl)

theorem downCol_apply (v : FVec Ideal S1x192 .f32) (s s' : Fin 192) :
    broadcastTo S192x192 v broadcasts_S1x192_S192x192 (ix2 s s') = v (ix2 0 s') :=
  broadcastTo_apply v broadcasts_S1x192_S192x192 (ix2 s s') (ix2 0 s') (fun a => match a with | ⟨0, _⟩ => rfl | ⟨1, _⟩ => rfl)

theorem notDiag_apply (s s' : Fin 192) : notDiag (ix2 s s') = BitVec.ofBool (decide (s ≠ s')) := by
  show IntOp.cmpi .ne _ _ = _
  rw [iota_single_apply, iota_single_apply]
  show IntOp.cmpi .ne (BitVec.ofNat 32 s.val) (BitVec.ofNat 32 s'.val) = _
  rw [WordCmp.cmpi_ne_eq_toNat]
  congr 1
  refine decide_eq_decide.mpr (not_congr ?_)
  simp [Fin.ext_iff]
  omega

theorem select_ofBool {α : Type} (c : Prop) [Decidable c] (a b : α) :
    Scalar.select (BitVec.ofBool (decide c)) a b = if c then a else b := by
  by_cases h : c <;> simp [h, Scalar.select]

/-- A tile's columns as nodes. -/
def feat (x : FVec Ideal S128x192 .f32) : Spec.Feat := fun s f => x (ix2 f s)

/-- A layer's parameters at their coordinates. -/
def lay (p : Par Ideal) : Spec.Lay where
  w0 f o := p.w0 (ix2 f o)
  w1 f o := p.w1 (ix2 f o)
  la f o := p.la (ix2 f o)
  lw f o := p.lw (ix2 f o)
  bc f := p.bc (ix2 f 0)
  lb f := p.lb (ix2 f 0)
  ga f := p.ga (ix2 f 0)
  be f := p.be (ix2 f 0)
  q f := p.q (ix2 f 0)
  k f := p.k (ix2 f 0)

theorem logit_apply (w : FVec Ideal S128x128 .f32) (q k : FVec Ideal S128x1 .f32) (x y : FVec Ideal S128x192 .f32)
    (s s' : Fin 192) : logit w q k x y (ix2 s s')
      = Spec.logit (fun f o => w (ix2 f o)) (fun o => q (ix2 o 0)) (fun o => k (ix2 o 0)) (feat x) (feat y) s s' := by
  have h : presum w q k x y (ix2 s s') = (∑ o, Spec.xw (fun f o => w (ix2 f o)) (feat x) s o * q (ix2 o 0))
      + ∑ o, k (ix2 o 0) * Spec.xw (fun f o => w (ix2 f o)) (feat y) s' o := by
    show broadcastTo S192x192 _ _ (ix2 s s') + broadcastTo S192x192 _ _ (ix2 s s') = _
    rw [acrossRow_apply, downCol_apply, qi_apply, kj_apply]
    simp only [xw_apply]
    rfl
  unfold Spec.logit
  rw [← h]
  show Scalar.select (FloatOps.cmpf .oge (presum w q k x y (ix2 s s')) (Ideal.ofBits .f32 0x00000000#32)) _ _ = _
  have h0 : Ideal.ofBits .f32 0x00000000#32 = 0 := Ideal.ofBits_zero_f32
  rw [h0]
  exact select_ofBool _ _ _

theorem amax_apply (ls lc : FVec Ideal S192x192 .f32) (s : Fin 192) :
    amax ls lc (ix2 s 0) = Spec.amax (fun s s' => ls (ix2 s s')) (fun s s' => lc (ix2 s s')) s := by
  show max (shapeCast S192x1 (multiReduction .maximumf [1] S192
      (select notDiag ls (broadcast S192x192 (Named.named κ "mask" 0xF149F2CA#32)))
      0xFF800000#32 reduces_S192x192_S192 (.inl rfl) rfl) shapeCasts_S192_S192x1 (ix2 s 0))
    (shapeCast S192x1 (multiReduction .maximumf [1] S192 lc 0xFF800000#32 reduces_S192x192_S192 (.inl rfl) rfl)
      shapeCasts_S192_S192x1 (ix2 s 0)) = _
  rw [maxRow_apply, maxRow_apply]
  unfold Spec.amax
  congr 2
  funext s'
  show Scalar.select (notDiag (ix2 s s')) _ (Named.named (F := Ideal) (φ := .f32) κ "mask" 0xF149F2CA#32) = _
  rw [notDiag_apply, select_ofBool, IdealRules.named_const.ideal_named_scalar _ _ _ _ rfl]

theorem exS_apply (ls lc : FVec Ideal S192x192 .f32) (s s' : Fin 192) :
    exS ls lc (ix2 s s') = Spec.exS (fun s s' => ls (ix2 s s')) (fun s s' => lc (ix2 s s')) s s' := by
  show Scalar.select (notDiag (ix2 s s')) (Ideal.exp (ls (ix2 s s') - broadcastTo S192x192 _ _ (ix2 s s'))) (Ideal.ofBits .f32 0x00000000#32) = _
  have h0 : Ideal.ofBits .f32 0x00000000#32 = 0 := Ideal.ofBits_zero_f32
  rw [notDiag_apply, select_ofBool, acrossRow_apply, amax_apply, h0]
  rfl

theorem exC_apply (ls lc : FVec Ideal S192x192 .f32) (s s' : Fin 192) :
    exC ls lc (ix2 s s') = Spec.exC (fun s s' => ls (ix2 s s')) (fun s s' => lc (ix2 s s')) s s' := by
  show Ideal.exp (lc (ix2 s s') - broadcastTo S192x192 _ _ (ix2 s s')) = _
  rw [acrossRow_apply, amax_apply]
  rfl

theorem den_apply (ls lc : FVec Ideal S192x192 .f32) (s : Fin 192) :
    den ls lc (ix2 s 0) = Spec.den (fun s s' => ls (ix2 s s')) (fun s s' => lc (ix2 s s')) s := by
  show shapeCast S192x1 _ _ (ix2 s 0) + shapeCast S192x1 _ _ (ix2 s 0) + Ideal.ofBits .f32 0x24E69595#32 = _
  rw [sumRow_apply, sumRow_apply]
  simp only [exS_apply, exC_apply]
  rfl

theorem prS_apply (ls lc : FVec Ideal S192x192 .f32) (s s' : Fin 192) :
    prS ls lc (ix2 s s') = Ideal.div (Spec.exS (fun s s' => ls (ix2 s s')) (fun s s' => lc (ix2 s s')) s s')
      (Spec.den (fun s s' => ls (ix2 s s')) (fun s s' => lc (ix2 s s')) s) := by
  show Ideal.div (exS ls lc (ix2 s s')) (broadcastTo S192x192 _ _ (ix2 s s')) = _
  rw [acrossRow_apply, den_apply, exS_apply]

theorem prC_apply (ls lc : FVec Ideal S192x192 .f32) (s s' : Fin 192) :
    prC ls lc (ix2 s s') = Ideal.div (Spec.exC (fun s s' => ls (ix2 s s')) (fun s s' => lc (ix2 s s')) s s')
      (Spec.den (fun s s' => ls (ix2 s s')) (fun s s' => lc (ix2 s s')) s) := by
  show Ideal.div (exC ls lc (ix2 s s')) (broadcastTo S192x192 _ _ (ix2 s s')) = _
  rw [acrossRow_apply, den_apply, exC_apply]

theorem aggr_apply (p : Par Ideal) (x y : FVec Ideal S128x192 .f32) (f : Fin 128) (s : Fin 192) :
    aggr p x y (ix2 f s) = Spec.aggr (lay p) (feat x) (feat y) s f := by
  show matmul _ none _ _ _ (ix2 f s) + matmul _ none _ _ _ (ix2 f s) = _
  rw [dotRows_apply, dotRows_apply]
  simp only [xw_apply, prS_apply, prC_apply, logit_apply]
  rfl

theorem m2_apply (p : Par Ideal) (x y : FVec Ideal S128x192 .f32) (o : Fin 128) (s : Fin 192) :
    m2 p x y (ix2 o s) = Spec.m2 (lay p) (feat x) (feat y) s o := by
  show matmul _ none _ _ _ (ix2 o s) + matmul _ none _ _ _ (ix2 o s) + bcol p.lb (ix2 o s) = _
  rw [lin_apply, lin_apply, bcol_apply]
  have h0 : Ideal.ofBits .f32 0x00000000#32 = 0 := Ideal.ofBits_zero_f32
  have hm (f : Fin 128) : maximumf (addf (aggr p x y) (bcol p.bc)) (broadcast S128x192 (Scalar.ofBits .f32 0x00000000#32)) (ix2 f s)
      = max (Spec.aggr (lay p) (feat x) (feat y) s f + (lay p).bc f) 0 := by
    show max (aggr p x y (ix2 f s) + bcol p.bc (ix2 f s)) (Ideal.ofBits .f32 0x00000000#32) = _
    rw [aggr_apply, bcol_apply, h0]
    rfl
  simp only [hm]
  rfl

theorem m2f_apply (p : Par Ideal) (x : Fin 4 → Fin 2 → FVec Ideal S128x192 .f32) (b : Fin 4) (t : Fin 2) (o : Fin 128)
    (s : Fin 192) : m2f p x b t (ix2 o s) = Spec.m2f (lay p) (fun b t => feat (x b t)) b t s o := by
  unfold m2f
  rw [m2_apply]
  rfl

theorem sum8_apply (v : Fin 4 → Fin 2 → FVec Ideal S128x192 .f32) (f : Fin 128) :
    sum8 v (ix2 f 0) = Spec.total (fun b t => feat (v b t)) f := by
  show rowSum _ (ix2 f 0) + rowSum _ (ix2 f 0) + rowSum _ (ix2 f 0) + rowSum _ (ix2 f 0) + rowSum _ (ix2 f 0)
    + rowSum _ (ix2 f 0) + rowSum _ (ix2 f 0) + rowSum _ (ix2 f 0) = _
  simp only [rowSum_apply]
  unfold Spec.total
  simp only [Fin.sum_univ_four, Fin.sum_univ_two, feat]
  simp only [add_assoc]

theorem inv_named : Named.named (F := Ideal) (φ := .f32) κ "inv_tot" 0x3A2AAAAB#32 = Spec.inv :=
  IdealRules.named_const.ideal_named_scalar _ _ _ _ rfl

theorem cent_apply (p : Par Ideal) (x : Fin 4 → Fin 2 → FVec Ideal S128x192 .f32) (b : Fin 4) (t : Fin 2) (o : Fin 128)
    (s : Fin 192) : cent p x b t (ix2 o s) = Spec.cent (lay p) (fun b t => feat (x b t)) b t s o := by
  show m2f p x b t (ix2 o s) - bcol (mean p x) (ix2 o s) = _
  rw [m2f_apply, bcol_apply]
  show _ - sum8 _ (ix2 o 0) * Named.named (F := Ideal) (φ := .f32) κ "inv_tot" 0x3A2AAAAB#32 = _
  rw [sum8_apply, inv_named]
  unfold Spec.cent
  have h : (fun b t => feat (m2f p x b t)) = Spec.m2f (lay p) (fun b t => feat (x b t)) := by
    funext b t s o
    exact m2f_apply p x b t o s
  rw [h]

theorem scale_apply (p : Par Ideal) (x : Fin 4 → Fin 2 → FVec Ideal S128x192 .f32) (o : Fin 128) :
    scale p x (ix2 o 0) = Ideal.rsqrt (Spec.var (lay p) (fun b t => feat (x b t)) o) * (lay p).ga o := by
  show Ideal.rsqrt ((sum8 (fun b t => mulf (cent p x b t) (cent p x b t)) (ix2 o 0) : EReal) * Named.named (F := Ideal) (φ := .f32) κ "inv_tot" 0x3A2AAAAB#32 + Ideal.ofBits .f32 0x3727C5AC#32) * _ = _
  rw [sum8_apply, inv_named]
  have h : (fun b t => feat (mulf (cent p x b t) (cent p x b t)))
      = fun b t s f => Spec.cent (lay p) (fun b t => feat (x b t)) b t s f * Spec.cent (lay p) (fun b t => feat (x b t)) b t s f := by
    funext b t s o
    show cent p x b t (ix2 o s) * cent p x b t (ix2 o s) = _
    rw [cent_apply]
  rw [h]
  rfl

theorem layer_apply (p : Par Ideal) (x : Fin 4 → Fin 2 → FVec Ideal S128x192 .f32) (b : Fin 4) (t : Fin 2) (o : Fin 128)
    (s : Fin 192) : layer p x b t (ix2 o s) = Spec.layer (lay p) (fun b t => feat (x b t)) b t s o := by
  show x b t (ix2 o s) + cent p x b t (ix2 o s) * bcol (scale p x) (ix2 o s) + bcol p.be (ix2 o s) = _
  rw [cent_apply, bcol_apply, bcol_apply, scale_apply]
  rfl

/-- Two layers. -/
theorem layer_mid (p : Par Ideal) (x0 x1 : Vec Ideal S512x192 .f32) (x2 : Vec Ideal S256x128 .f32)
    (x3 : Vec Ideal S128x256 .f32) (x4 : Vec Ideal S128x8 .f32) (b : Fin 4) (t : Fin 2) (o : Fin 128) (s : Fin 192) :
    layer p (mid x0 x1 x2 x3 x4) b t (ix2 o s)
      = Spec.layer (lay p) (Spec.layer (lay (par x2 x3 x4)) fun b t => feat (tile x0 x1 b t)) b t s o := by
  rw [layer_apply]
  congr 1
  funext b t s o
  exact layer_apply _ _ b t o s

end Cert.Proof.Tiles

end
-- ==== Proof.Host.lean ====
/- What the kernel's host operations leave in the arrays its windows read, and what the tiles read there. -/
module

public import proofs.«01_k».proof.Proof.KernelRead
public import Idealize.ShloMosaic.Lib.StableHlo.RunRead
public import Idealize.ShloMosaic.Lib.KernelVsHost

@[expose] public section

noncomputable section

namespace Cert.Proof.Host

open Idealize.ShloMosaic Idealize.ShloMosaic.TcCoe ValueIdx Idealize.SL.Sem Cert.KernelIdeal Cert.KernelIdeal.Gen

/-- The six columns side by side, then two columns of zeros. -/
def cols (bc lb ga be : S128.Idx → EReal) (q k : S128x1.Idx → EReal) : S128x8.Idx → EReal :=
  pad S128x8 ![0, 0] ![0, 2] ![0, 0]
    (concatenate S128x6 1 [⟨S128x1, broadcastInDim S128x1 ![0] bcast_S128_S128x1_0 bc⟩, ⟨S128x1, broadcastInDim S128x1 ![0] bcast_S128_S128x1_0 lb⟩,
      ⟨S128x1, broadcastInDim S128x1 ![0] bcast_S128_S128x1_0 ga⟩, ⟨S128x1, broadcastInDim S128x1 ![0] bcast_S128_S128x1_0 be⟩,
      ⟨S128x1, broadcastInDim S128x1 ![0] bcast_S128_S128x1_0 (shapeCast S128 q shapeCasts_S128x1_S128)⟩,
      ⟨S128x1, broadcastInDim S128x1 ![0] bcast_S128_S128x1_0 (shapeCast S128 k shapeCasts_S128x1_S128)⟩] concatenates_S128x1_S128x1_S128x1_S128x1_S128x1_S128x1_S128x6_d1)
    (sitofp (F := Ideal) .f32 (constantI S_ 32 0#32)) pads_S128x6_S128x8_000_020 h_S_

/-- Six equal columns side by side and padded are equal. -/
theorem packed {a0 a1 a2 a3 a4 a5 b0 b1 b2 b3 b4 b5 : S128x1.Idx → EReal} {v : S_.Idx → EReal} (h0 : a0 = b0) (h1 : a1 = b1) (h2 : a2 = b2)
    (h3 : a3 = b3) (h4 : a4 = b4) (h5 : a5 = b5) :
    pad S128x8 ![0, 0] ![0, 2] ![0, 0] (concatenate S128x6 1 [⟨S128x1, a0⟩, ⟨S128x1, a1⟩, ⟨S128x1, a2⟩, ⟨S128x1, a3⟩, ⟨S128x1, a4⟩, ⟨S128x1, a5⟩]
        concatenates_S128x1_S128x1_S128x1_S128x1_S128x1_S128x1_S128x6_d1) v pads_S128x6_S128x8_000_020 h_S_
      = pad S128x8 ![0, 0] ![0, 2] ![0, 0] (concatenate S128x6 1 [⟨S128x1, b0⟩, ⟨S128x1, b1⟩, ⟨S128x1, b2⟩, ⟨S128x1, b3⟩, ⟨S128x1, b4⟩, ⟨S128x1, b5⟩]
        concatenates_S128x1_S128x1_S128x1_S128x1_S128x1_S128x1_S128x6_d1) v pads_S128x6_S128x8_000_020 h_S_ := by
  subst h0 h1 h2 h3 h4 h5
  rfl

variable (m : (ℓ : Loc nD τ sig) → Buf (Elt Ideal) ℓ) (c : Dev nD)

theorem at_v0 : V m c main_v0 = shapeCast S512x192 (m ((c : Thread nD τ).loc main_arg0)) shapeCasts_S4x128x192_S512x192 := by
  after_reads_simp <;> rfl

theorem at_v1 : V m c main_v1 = shapeCast S512x192 (m ((c : Thread nD τ).loc main_arg1)) shapeCasts_S4x128x192_S512x192 := by
  after_reads_simp <;> rfl

theorem at_v2 : V m c main_v2 = shapeCast S256x128 (m ((c : Thread nD τ).loc main_arg2)) shapeCasts_S2x128x128_S256x128 := by
  after_reads_simp <;> rfl

theorem at_v13 : V m c main_v13 = shapeCast S256x128 (m ((c : Thread nD τ).loc main_arg10)) shapeCasts_S2x128x128_S256x128 := by
  after_reads_simp <;> rfl

theorem at_v12 : V m c main_v12 = cols (m ((c : Thread nD τ).loc main_arg5)) (m ((c : Thread nD τ).loc main_arg7)) (m ((c : Thread nD τ).loc main_arg8))
    (m ((c : Thread nD τ).loc main_arg9)) (m ((c : Thread nD τ).loc main_arg3)) (m ((c : Thread nD τ).loc main_arg4)) := by
  after_reads_simp
  refine packed ?_ ?_ ?_ ?_ ?_ ?_ <;> dsimp only [Matrix.cons_val] <;> after_reads_simp <;> rfl

theorem at_v23 : V m c main_v23 = cols (m ((c : Thread nD τ).loc main_arg13)) (m ((c : Thread nD τ).loc main_arg15)) (m ((c : Thread nD τ).loc main_arg16))
    (m ((c : Thread nD τ).loc main_arg17)) (m ((c : Thread nD τ).loc main_arg11)) (m ((c : Thread nD τ).loc main_arg12)) := by
  after_reads_simp
  refine packed ?_ ?_ ?_ ?_ ?_ ?_ <;> dsimp only [Matrix.cons_val] <;> after_reads_simp <;> rfl

end Cert.Proof.Host

end
-- ==== Proof.Nodes.lean ====
/- The network over a graph's 384 nodes at once, the softmax and the batch norm as the reference writes them,
   and its agreement with `Spec`: a node is a set and a place in it. -/
module

public import proofs.«01_k».proof.Proof.Spec

@[expose] public section

noncomputable section

namespace Cert.Proof.Nodes

open Idealize.ShloMosaic Spec

abbrev All := Fin 384 → Fin 128 → EReal

/-- Whether a node is in the first set. -/
def low (n : Fin 384) : Prop := n.val < 192

instance (n : Fin 384) : Decidable (low n) := inferInstanceAs (Decidable (n.val < 192))

def xw (w : Fin 128 → Fin 128 → EReal) (X : All) (n : Fin 384) (o : Fin 128) : EReal := ∑ f, X n f * w f o

def logit (p : Lay) (X : All) (n m : Fin 384) : EReal :=
  lk (if low n ↔ low m then (∑ o, xw p.w0 X n o * p.q o) + ∑ o, xw p.w0 X m o * p.k o
    else (∑ o, xw p.w1 X n o * p.q o) + ∑ o, xw p.w1 X m o * p.k o)

def amax (l : Fin 384 → EReal) (n : Fin 384) : EReal := Finset.univ.fold max ⊥ fun m => if n ≠ m then l m else ⊥

/-- The shift: the greatest logit where it is a number, zero where it is not. -/
def shift (a : EReal) : EReal := if max a (-a) < ⊤ then a else 0

def ex (l : Fin 384 → EReal) (a : EReal) (n m : Fin 384) : EReal := if n ≠ m then Ideal.exp (l m - a) else 0

/-- The softmax's value at `m` among node `n`'s neighbours, shifted by `a`. -/
def prob (l : Fin 384 → EReal) (a : EReal) (n m : Fin 384) : EReal :=
  Ideal.div (ex l a n m) ((∑ m, ex l a n m) + tiny)

def alpha (p : Lay) (X : All) (n m : Fin 384) : EReal :=
  prob (logit p X n) (shift (amax (logit p X n) n)) n m

def aggr (p : Lay) (X : All) (n : Fin 384) (f : Fin 128) : EReal :=
  (∑ m, (if low n ↔ low m then alpha p X n m else 0) * xw p.w0 X m f)
    + ∑ m, (if low n ↔ low m then 0 else alpha p X n m) * xw p.w1 X m f

def m2 (p : Lay) (X : All) (n : Fin 384) (o : Fin 128) : EReal :=
  (∑ f, X n f * p.la o f) + (∑ f, max (aggr p X n f + p.bc f) 0 * p.lw o f) + p.lb o

def total (v : Fin 4 → All) (f : Fin 128) : EReal := ∑ b, ∑ n, v b n f

def mean (p : Lay) (X : Fin 4 → All) (f : Fin 128) : EReal := total (fun b => m2 p (X b)) f * inv

def cent (p : Lay) (X : Fin 4 → All) (b : Fin 4) (n : Fin 384) (f : Fin 128) : EReal := m2 p (X b) n f - mean p X f

def var (p : Lay) (X : Fin 4 → All) (f : Fin 128) : EReal :=
  total (fun b n f => cent p X b n f * cent p X b n f) f * inv + eps

def layer (p : Lay) (X : Fin 4 → All) (b : Fin 4) (n : Fin 384) (f : Fin 128) : EReal :=
  X b n f + (Ideal.div (cent p X b n f) (Ideal.sqrt (var p X f)) * p.ga f + p.be f)

/-! ## The constants -/

theorem tiny_pos : 0 < tiny := by
  unfold tiny
  simp [Ideal.ofBits, Ideal.ieee, -EReal.coe_mul]

theorem tiny_ne_bot : tiny ≠ ⊥ := (lt_trans EReal.bot_lt_zero tiny_pos).ne'

theorem eps_pos : 0 < eps := by
  unfold eps
  simp [Ideal.ofBits, Ideal.ieee, -EReal.coe_mul]

theorem inv_nonneg : 0 ≤ inv := by
  unfold inv
  exact_mod_cast (by norm_num : (0 : ℝ) ≤ 1 / 1536)

/-! ## Exponentials and quotients -/

theorem exp_nonneg (x : EReal) : 0 ≤ Ideal.exp x := by
  induction x with
  | bot => exact le_refl _
  | top => exact le_top
  | coe r =>
    show (0 : EReal) ≤ (Real.exp r : EReal)
    exact_mod_cast (Real.exp_pos r).le

theorem div_top (x : EReal) : Ideal.div x ⊤ = 0 := by
  unfold Ideal.div
  rw [if_neg (by simp)]
  simp

theorem zero_div {y : EReal} (h : y ≠ 0) : Ideal.div 0 y = 0 := by
  unfold Ideal.div
  rw [if_neg h, zero_mul]

theorem ex_nonneg (l : Fin 384 → EReal) (a : EReal) (n m : Fin 384) : 0 ≤ ex l a n m := by
  unfold ex
  split
  · exact exp_nonneg _
  · exact le_refl _

theorem le_amax (l : Fin 384 → EReal) {n m : Fin 384} (h : n ≠ m) : l m ≤ amax l n := by
  have h1 : (fun m => if n ≠ m then l m else ⊥) m ≤ Finset.univ.sup fun m => if n ≠ m then l m else ⊥ :=
    Finset.le_sup (f := fun m => if n ≠ m then l m else ⊥) (Finset.mem_univ m)
  beta_reduce at h1
  rw [if_pos h] at h1
  exact h1

theorem sub_top' (x : EReal) : x - ⊤ = ⊥ := EReal.sub_top x

/-- Replacing a shift that is not a number by zero leaves the softmax as it is. -/
theorem prob_shift (l : Fin 384 → EReal) (n m : Fin 384) :
    prob l (shift (amax l n)) n m = prob l (amax l n) n m := by
  unfold shift
  split
  · rfl
  rename_i hA
  have hA' : amax l n = ⊤ ∨ amax l n = ⊥ := by
    generalize amax l n = a at hA
    induction a with
    | bot => exact Or.inr rfl
    | top => exact Or.inl rfl
    | coe r =>
      exfalso
      apply hA
      rw [max_lt_iff]
      exact ⟨EReal.coe_lt_top r, by rw [← EReal.coe_neg]; exact EReal.coe_lt_top _⟩
  rcases hA' with h | h
  · have h0 (m : Fin 384) : ex l (amax l n) n m = 0 := by
      unfold ex
      rw [h, sub_top']
      split <;> rfl
    have hz : prob l (amax l n) n m = 0 := by
      unfold prob
      simp only [h0, Finset.sum_const_zero, zero_add]
      exact zero_div tiny_pos.ne'
    rw [hz]
    obtain ⟨j, _, hj⟩ := Finset.exists_mem_eq_sup (Finset.univ : Finset (Fin 384)) ⟨0, Finset.mem_univ _⟩
      (fun m => if n ≠ m then l m else ⊥)
    have hj' : (if n ≠ j then l j else ⊥) = ⊤ := hj.symm.trans h
    have hnj : n ≠ j := by
      intro e
      simp [e] at hj'
    rw [if_pos hnj] at hj'
    have he : ex l 0 n j = ⊤ := by
      unfold ex
      rw [if_pos hnj, hj', sub_zero]
      rfl
    have hs : ∑ m, ex l 0 n m = ⊤ := by
      refine top_le_iff.mp ?_
      rw [← he]
      exact Finset.single_le_sum (fun m _ => ex_nonneg l 0 n m) (Finset.mem_univ j)
    unfold prob
    rw [hs, EReal.top_add_of_ne_bot tiny_ne_bot, div_top]
  · have hl (m : Fin 384) (hm : n ≠ m) : l m = ⊥ := le_bot_iff.mp (h ▸ le_amax l hm)
    have h0 (a : EReal) (ha : a = ⊥ ∨ a = 0) (m : Fin 384) : ex l a n m = 0 := by
      unfold ex
      split
      · rename_i hm
        rw [hl m hm]
        rcases ha with rfl | rfl <;> simp [sub_eq_add_neg] <;> rfl
      · rfl
    unfold prob
    simp only [h0 _ (Or.inr rfl), h0 _ (Or.inl h)]

/-- The batch norm: a quotient by a square root is a product by the reciprocal one, the variance positive. -/
theorem norm_eq (c v g : EReal) (hv : 0 < v) :
    Ideal.div c (Ideal.sqrt v) * g = c * (Ideal.rsqrt v * g) := by
  induction v with
  | bot => exact absurd hv (by simp)
  | top =>
    show Ideal.div c ⊤ * g = c * (0 * g)
    rw [div_top]
    simp
  | coe r =>
    have hr : 0 < r := by exact_mod_cast hv
    have hs : Real.sqrt r ≠ 0 := (Real.sqrt_pos.mpr hr).ne'
    have e1 : Ideal.sqrt (r : EReal) = (Real.sqrt r : EReal) := by
      show (if r < 0 then ⊥ else (Real.sqrt r : EReal)) = _
      rw [if_neg (by linarith)]
    have e2 : Ideal.rsqrt (r : EReal) = ((Real.sqrt r)⁻¹ : ℝ) := by
      show (if r < 0 then ⊥ else if r = 0 then ⊤ else (((Real.sqrt r)⁻¹ : ℝ) : EReal)) = _
      rw [if_neg (by linarith), if_neg hr.ne']
    rw [e1, e2, Ideal.div_coe hs, one_div, mul_assoc]

/-! ## A node is a set and a place in it -/

def nd (t : Fin 2) (s : Fin 192) : Fin 384 := ⟨t.val * 192 + s.val, by omega⟩

theorem sum_nodes {M : Type} [AddCommMonoid M] (g : Fin 384 → M) : ∑ n, g n = ∑ t, ∑ s, g (nd t s) := by
  rw [← Fintype.sum_prod_type' (fun t s => g (nd t s))]
  refine (Fintype.sum_equiv (finProdFinEquiv : Fin 2 × Fin 192 ≃ Fin 384) _ _ fun x => ?_).symm
  refine congrArg g (Fin.ext ?_)
  show x.1.val * 192 + x.2.val = x.2.val + 192 * x.1.val
  omega

theorem exists_nd (n : Fin 384) : ∃ t s, n = nd t s := by
  refine ⟨⟨n.val / 192, by omega⟩, ⟨n.val % 192, by omega⟩, Fin.ext ?_⟩
  show n.val = n.val / 192 * 192 + n.val % 192
  omega

theorem nd_inj {t t' : Fin 2} {s s' : Fin 192} : nd t s = nd t' s' ↔ t = t' ∧ s = s' := by
  simp only [nd, Fin.ext_iff]
  omega

theorem low_nd (t t' : Fin 2) (s s' : Fin 192) : (low (nd t s) ↔ low (nd t' s')) ↔ t = t' := by
  unfold low nd
  simp only [Fin.ext_iff]
  omega

theorem other_ne (t : Fin 2) : t ≠ other t := by fin_cases t <;> decide

theorem other_cases (t t' : Fin 2) : t' = t ∨ t' = other t := by fin_cases t <;> fin_cases t' <;> decide

theorem sum_sets {M : Type} [AddCommMonoid M] (t : Fin 2) (g : Fin 2 → M) : ∑ t', g t' = g t + g (other t) := by
  rw [Fin.sum_univ_two]
  fin_cases t
  · rfl
  · exact add_comm _ _

/-- A maximum over the nodes is the greater of the two sets' maxima. -/
theorem max_nodes (t : Fin 2) (g : Fin 384 → EReal) : Finset.univ.fold max ⊥ g
    = max (Finset.univ.fold max ⊥ fun s => g (nd t s)) (Finset.univ.fold max ⊥ fun s => g (nd (other t) s)) := by
  show Finset.univ.sup g = max (Finset.univ.sup fun s => g (nd t s)) (Finset.univ.sup fun s => g (nd (other t) s))
  refine le_antisymm (Finset.sup_le fun n _ => ?_) (max_le (Finset.sup_le fun s _ => ?_) (Finset.sup_le fun s _ => ?_))
  · obtain ⟨t', s, rfl⟩ := exists_nd n
    rcases other_cases t t' with rfl | rfl
    · exact le_max_of_le_left (Finset.le_sup (f := fun s => g (nd t' s)) (Finset.mem_univ s))
    · exact le_max_of_le_right (Finset.le_sup (f := fun s => g (nd (other t) s)) (Finset.mem_univ s))
  · exact Finset.le_sup (Finset.mem_univ _)
  · exact Finset.le_sup (Finset.mem_univ _)

/-- A graph's features, a set at a time. -/
def sets (X : All) (t : Fin 2) : Feat := fun s f => X (nd t s) f

variable (p : Lay) (X : All)

theorem xw_nd (w : Fin 128 → Fin 128 → EReal) (t : Fin 2) (s : Fin 192) (o : Fin 128) :
    xw w X (nd t s) o = Spec.xw w (sets X t) s o :=
  Finset.sum_congr rfl fun _ _ => mul_comm _ _

theorem logit_own (t : Fin 2) (s s' : Fin 192) :
    logit p X (nd t s) (nd t s') = Spec.logit p.w0 p.q p.k (sets X t) (sets X t) s s' := by
  unfold logit Spec.logit
  rw [if_pos ((low_nd t t s s').mpr rfl)]
  simp only [xw_nd, mul_comm (p.k _)]

theorem logit_other (t : Fin 2) (s s' : Fin 192) :
    logit p X (nd t s) (nd (other t) s') = Spec.logit p.w1 p.q p.k (sets X t) (sets X (other t)) s s' := by
  unfold logit Spec.logit
  rw [if_neg (fun h => other_ne t ((low_nd t (other t) s s').mp h))]
  simp only [xw_nd, mul_comm (p.k _)]

theorem ne_own (t : Fin 2) (s s' : Fin 192) : nd t s ≠ nd t s' ↔ s ≠ s' := by
  rw [Ne, nd_inj]
  simp

theorem ne_other (t : Fin 2) (s s' : Fin 192) : nd t s ≠ nd (other t) s' := by
  rw [Ne, nd_inj]
  exact fun h => other_ne t h.1

/-- The two sets' logits at a set's nodes. -/
abbrev ls (t : Fin 2) : Fin 192 → Fin 192 → EReal := Spec.logit p.w0 p.q p.k (sets X t) (sets X t)
abbrev lc (t : Fin 2) : Fin 192 → Fin 192 → EReal := Spec.logit p.w1 p.q p.k (sets X t) (sets X (other t))

theorem amax_nd (t : Fin 2) (s : Fin 192) :
    amax (logit p X (nd t s)) (nd t s) = Spec.amax (ls p X t) (lc p X t) s := by
  unfold amax Spec.amax
  rw [max_nodes t]
  simp only [ne_own, if_pos (ne_other _ _ _), logit_own, logit_other]

theorem ex_own (t : Fin 2) (s s' : Fin 192) :
    ex (logit p X (nd t s)) (amax (logit p X (nd t s)) (nd t s)) (nd t s) (nd t s') = Spec.exS (ls p X t) (lc p X t) s s' := by
  rw [amax_nd]
  unfold ex Spec.exS
  simp only [ne_own, logit_own]

theorem ex_other (t : Fin 2) (s s' : Fin 192) :
    ex (logit p X (nd t s)) (amax (logit p X (nd t s)) (nd t s)) (nd t s) (nd (other t) s')
      = Spec.exC (ls p X t) (lc p X t) s s' := by
  rw [amax_nd]
  unfold ex Spec.exC
  rw [if_pos (ne_other t s s'), logit_other]

theorem den_nd (t : Fin 2) (s : Fin 192) :
    (∑ m, ex (logit p X (nd t s)) (amax (logit p X (nd t s)) (nd t s)) (nd t s) m) + tiny
      = Spec.den (ls p X t) (lc p X t) s := by
  rw [sum_nodes, sum_sets t]
  simp only [ex_own, ex_other]
  rfl

theorem alpha_own (t : Fin 2) (s s' : Fin 192) : alpha p X (nd t s) (nd t s')
    = Ideal.div (Spec.exS (ls p X t) (lc p X t) s s') (Spec.den (ls p X t) (lc p X t) s) := by
  unfold alpha
  rw [prob_shift]
  unfold prob
  rw [den_nd, ex_own]

theorem alpha_other (t : Fin 2) (s s' : Fin 192) : alpha p X (nd t s) (nd (other t) s')
    = Ideal.div (Spec.exC (ls p X t) (lc p X t) s s') (Spec.den (ls p X t) (lc p X t) s) := by
  unfold alpha
  rw [prob_shift]
  unfold prob
  rw [den_nd, ex_other]

theorem aggr_nd (t : Fin 2) (s : Fin 192) (f : Fin 128) :
    aggr p X (nd t s) f = Spec.aggr p (sets X t) (sets X (other t)) s f := by
  unfold aggr Spec.aggr
  rw [sum_nodes, sum_sets t, sum_nodes, sum_sets t]
  have hn : ¬ t = other t := other_ne t
  simp only [low_nd, if_true, if_neg hn, zero_mul, Finset.sum_const_zero, add_zero, zero_add, alpha_own, alpha_other, xw_nd]
  simp only [mul_comm]

theorem m2_nd (t : Fin 2) (s : Fin 192) (o : Fin 128) :
    m2 p X (nd t s) o = Spec.m2 p (sets X t) (sets X (other t)) s o := by
  unfold m2 Spec.m2
  simp only [aggr_nd, mul_comm (p.la _ _), mul_comm (p.lw _ _)]
  rfl

theorem total_nd (v : Fin 4 → All) (f : Fin 128) : total v f = Spec.total (fun b => sets (v b)) f := by
  unfold total Spec.total
  refine Finset.sum_congr rfl fun b _ => ?_
  rw [sum_nodes]
  rfl

variable (Y : Fin 4 → All)

theorem mean_nd (f : Fin 128) : mean p Y f = Spec.total (Spec.m2f p fun b => sets (Y b)) f * inv := by
  unfold mean
  rw [total_nd]
  congr 2
  funext b t s f
  exact m2_nd p (Y b) t s f

theorem cent_nd (b : Fin 4) (t : Fin 2) (s : Fin 192) (f : Fin 128) :
    cent p Y b (nd t s) f = Spec.cent p (fun b => sets (Y b)) b t s f := by
  unfold cent Spec.cent
  rw [mean_nd, m2_nd]
  rfl

theorem var_nd (f : Fin 128) : var p Y f = Spec.var p (fun b => sets (Y b)) f := by
  unfold var Spec.var
  rw [total_nd]
  congr 3
  funext b t s f
  show cent p Y b (nd t s) f * cent p Y b (nd t s) f = _
  rw [cent_nd]

theorem sq_nonneg (x : EReal) : 0 ≤ x * x := by
  rcases le_total 0 x with h | h
  · exact mul_nonneg h h
  · have := mul_nonneg (EReal.neg_nonneg.mpr h) (EReal.neg_nonneg.mpr h)
    simpa using this

theorem var_pos (f : Fin 128) : 0 < var p Y f := by
  unfold var total
  refine lt_of_lt_of_le eps_pos (le_add_of_nonneg_left (mul_nonneg ?_ inv_nonneg))
  exact Finset.sum_nonneg fun b _ => Finset.sum_nonneg fun n _ => sq_nonneg _

/-- One layer over all the nodes is the layer over the sets. -/
theorem layer_nd (b : Fin 4) (t : Fin 2) (s : Fin 192) (f : Fin 128) :
    layer p Y b (nd t s) f = Spec.layer p (fun b => sets (Y b)) b t s f := by
  unfold layer
  rw [norm_eq _ _ _ (var_pos p Y f), cent_nd, var_nd, ← add_assoc]
  rfl

/-- Two layers. -/
theorem layer_layer (p' : Lay) (b : Fin 4) (t : Fin 2) (s : Fin 192) (f : Fin 128) :
    layer p' (layer p Y) b (nd t s) f = Spec.layer p' (Spec.layer p fun b => sets (Y b)) b t s f := by
  rw [layer_nd]
  congr 1
  funext b t s f
  exact layer_nd p Y b t s f

end Cert.Proof.Nodes

end
-- ==== Proof.RefCommon.lean ====
/- What both layers of the reference share: its parameters at their coordinates, and its reductions over nodes
   and its joins read at an element. -/
module

public import proofs.«01_k».proof.Proof.Nodes
public import proofs.«01_k».proof.Proof.Gen.ReferenceIdeal.Read
public import Idealize.ShloMosaic.Lib.WordCmp

@[expose] public section

noncomputable section

namespace Cert.Proof.Ref

open Cert.ReferenceIdeal Cert.ReferenceIdeal.Gen Cert.ReferenceIdeal.Read Idealize.ShloMosaic ValueIdx

/-- A layer's parameters as the reference takes them. -/
def lay (W : (⟨S2x128x128, .f32⟩ : BufTy).Contents (Elt Ideal)) (q k : (⟨S128x1, .f32⟩ : BufTy).Contents (Elt Ideal))
    (bc : (⟨S128, .f32⟩ : BufTy).Contents (Elt Ideal)) (lw : (⟨S128x256, .f32⟩ : BufTy).Contents (Elt Ideal))
    (lb ga be : (⟨S128, .f32⟩ : BufTy).Contents (Elt Ideal)) : Spec.Lay where
  w0 f o := W (ix3 0 f o)
  w1 f o := W (ix3 1 f o)
  la o f := lw (ix2 o ⟨f.val, by omega⟩)
  lw o f := lw (ix2 o ⟨128 + f.val, by omega⟩)
  bc f := bc (ix1 f)
  lb f := lb (ix1 f)
  ga f := ga (ix1 f)
  be f := be (ix1 f)
  q f := q (ix2 f 0)
  k f := k (ix2 f 0)

theorem ext1 {n : Fin 1 → ℕ} {x y : (a : Fin 1) → Fin (n a)} (h0 : (x 0).val = (y 0).val) : x = y :=
  funext fun a => Fin.ext (match a with | ⟨0, _⟩ => h0)

theorem ext2 {n : Fin 2 → ℕ} {x y : (a : Fin 2) → Fin (n a)} (h0 : (x 0).val = (y 0).val)
    (h1 : (x 1).val = (y 1).val) : x = y :=
  funext fun a => Fin.ext (match a with | ⟨0, _⟩ => h0 | ⟨1, _⟩ => h1)

theorem ext3 {n : Fin 3 → ℕ} {x y : (a : Fin 3) → Fin (n a)} (h0 : (x 0).val = (y 0).val)
    (h1 : (x 1).val = (y 1).val) (h2 : (x 2).val = (y 2).val) : x = y :=
  funext fun a => Fin.ext (match a with | ⟨0, _⟩ => h0 | ⟨1, _⟩ => h1 | ⟨2, _⟩ => h2)

/-- A value read at an index is the value read at the index with its coordinates. -/
theorem at1 {α : Type} {a : ℕ} {v : Shape.Idx ⟨1, ![a]⟩ → α} {x : Fin a} {r : α} {i : Shape.Idx ⟨1, ![a]⟩}
    (h : v (ix1 x) = r) (h0 : (i 0).val = x.val := by rfl) : v i = r :=
  (congrArg v (ext1 h0)).trans h

theorem at2 {α : Type} {a b : ℕ} {v : Shape.Idx ⟨2, ![a, b]⟩ → α} {x : Fin a} {y : Fin b} {r : α}
    {i : Shape.Idx ⟨2, ![a, b]⟩} (h : v (ix2 x y) = r) (h0 : (i 0).val = x.val := by rfl)
    (h1 : (i 1).val = y.val := by rfl) : v i = r :=
  (congrArg v (ext2 h0 h1)).trans h

theorem at3 {α : Type} {a b c : ℕ} {v : Shape.Idx ⟨3, ![a, b, c]⟩ → α} {x : Fin a} {y : Fin b} {z : Fin c} {r : α}
    {i : Shape.Idx ⟨3, ![a, b, c]⟩} (h : v (ix3 x y z) = r) (h0 : (i 0).val = x.val := by rfl)
    (h1 : (i 1).val = y.val := by rfl) (h2 : (i 2).val = z.val := by rfl) : v i = r :=
  (congrArg v (ext3 h0 h1 h2)).trans h

theorem select_ofBool {α : Type} (c : Prop) [Decidable c] (a b : α) :
    Scalar.select (BitVec.ofBool (decide c)) a b = if c then a else b := by
  by_cases h : c <;> simp [h, Scalar.select]

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem nodeCount : Ideal.ofBits .f32 0x44C00000#32 = ((1536 : ℝ) : EReal) := by
  simp [Ideal.ofBits, Ideal.ieee, -EReal.coe_mul]
  norm_num

theorem div_nodeCount (x : EReal) : Ideal.div x (Ideal.ofBits .f32 0x44C00000#32) = x * Spec.inv := by
  rw [nodeCount]
  exact Ideal.div_coe (by norm_num) x

theorem maxRow (y : FVec Ideal S4x384x384 .f32) (c : S_.Idx → EReal) (hc : c (Shape.Idx.first h_S_) = ⊥) (b : Fin 4) (n : Fin 384) :
    Host.reduce (FloatOps.maximumf (F := Ideal) (φ := .f32)) y c reducesTo_S4x384x384_S4x384_d2 h_S_ (ix2 b n)
      = Finset.univ.fold max ⊥ fun m : Fin 384 => (y (ix3 b n m) : EReal) := by
  rw [Host.reduce_eq_fold_single (FloatOps.maximumf (F := Ideal) (φ := .f32)) y c reducesTo_S4x384x384_S4x384_d2 (by decide) h_S_, hc]
  show Finset.univ.fold max ⊥ _ = _
  exact congrArg (Finset.univ.fold max ⊥) (funext fun m => congrArg y (ext3 rfl rfl rfl))

theorem sumAll (y : FVec Ideal S4x384x128 .f32) (c : S_.Idx → EReal) (hc : c (Shape.Idx.first h_S_) = 0) (f : Fin 128) :
    Host.reduceAdd (F := Ideal) (φ := .f32) y c reducesTo_S4x384x128_S128_d0_1 h_S_ (ix1 f)
      = ∑ b : Fin 4, ∑ n : Fin 384, (y (ix3 b n f) : EReal) := by
  simp only [Host.reduceAdd, Ideal.hostReduceAdd_def]
  unfold Ideal.hostReduceAdd
  rw [hc, zero_add, ← Fintype.sum_prod_type' (fun (b : Fin 4) (n : Fin 384) => (y (ix3 b n f) : EReal))]
  refine Finset.sum_bij' (fun (i : S4x384x128.Idx) _ => ((i 0, i 1) : Fin 4 × Fin 384)) (fun x _ => (ix3 x.1 x.2 f : S4x384x128.Idx))
    (fun _ _ => Finset.mem_univ _) (fun x _ => Finset.mem_filter.mpr ⟨Finset.mem_univ _, ext1 rfl⟩) (fun i hi => ?_) (fun _ _ => rfl) (fun i hi => ?_)
  · exact ext3 rfl rfl (congrArg Fin.val (congrFun (Finset.mem_filter.mp hi).2 0)).symm
  · exact congrArg y (ext3 rfl rfl (congrArg Fin.val (congrFun (Finset.mem_filter.mp hi).2 0)))

/-- The product with two blocks of features joined is the sum of the two products. -/
theorem joined (x y : FVec Ideal S4x384x128 .f32) (w : Fin 256 → EReal) (b : Fin 4) (n : Fin 384) :
    ∑ k : Fin 256, (concatenate S4x384x256 2 [⟨S4x384x128, x⟩, ⟨S4x384x128, y⟩]
        concatenates_S4x384x128_S4x384x128_S4x384x256_d2 (ix3 b n k) : EReal) * w k
      = (∑ f : Fin 128, x (ix3 b n f) * w ⟨f.val, by omega⟩) + ∑ f : Fin 128, y (ix3 b n f) * w ⟨128 + f.val, by omega⟩ := by
  refine (Fin.sum_univ_add (a := 128) (b := 128) _).trans (congrArg₂ (· + ·) ?_ ?_)
  · refine Finset.sum_congr rfl fun f _ => congrArg (· * w ⟨f.val, by omega⟩) ?_
    exact concatenate_pair_apply_left (t := S4x384x256) 2 x y
      concatenates_S4x384x128_S4x384x128_S4x384x256_d2 (ix3 b n (Fin.castAdd 128 f)) rfl (ix3 b n f) (fun a => match a with | ⟨0, _⟩ => rfl | ⟨1, _⟩ => rfl | ⟨2, _⟩ => rfl)
  · refine Finset.sum_congr rfl fun f _ => congrArg (· * w ⟨128 + f.val, by omega⟩) ?_
    exact concatenate_pair_apply_right (t := S4x384x256) 2 x y
      concatenates_S4x384x128_S4x384x128_S4x384x256_d2 (ix3 b n (Fin.natAdd 128 f)) rfl rfl (ix3 b n f)
      (fun a h => match a, h with | ⟨0, _⟩, _ => rfl | ⟨1, _⟩, _ => rfl | ⟨2, _⟩, h => absurd rfl h) (Nat.add_comm _ _)

end Cert.Proof.Ref

end
-- ==== Proof.RefFirst.lean ====
/- The reference's first layer, one operation after another, read at an element: it is `Nodes.layer`. -/
module

public import proofs.«01_k».proof.Proof.RefCommon

@[expose] public section

noncomputable section

namespace Cert.Proof.Ref.First

open Cert.ReferenceIdeal Cert.ReferenceIdeal.Gen Cert.ReferenceIdeal.Read Idealize.ShloMosaic ValueIdx Cert.Proof.Ref

variable (x0 x1 : (⟨S4x128x192, .f32⟩ : BufTy).Contents (Elt Ideal))
  (x2 x10 : (⟨S2x128x128, .f32⟩ : BufTy).Contents (Elt Ideal))
  (x3 x4 x11 x12 : (⟨S128x1, .f32⟩ : BufTy).Contents (Elt Ideal))
  (x5 x7 x8 x9 x13 x15 x16 x17 : (⟨S128, .f32⟩ : BufTy).Contents (Elt Ideal))
  (x6 x14 : (⟨S128x256, .f32⟩ : BufTy).Contents (Elt Ideal))

/-- The layer's input, a graph at a time. -/
abbrev inp (b : Fin 4) : Nodes.All := fun n f => val_main_v1 (F := Ideal) x0 x1 (ix3 b n f)

theorem differ (n m : Fin 384) : val_main_v7 (F := Ideal) (ix2 n m) = BitVec.ofBool (decide (n ≠ m)) := by
  rw [val_main_v7_apply, val_main_v5_apply, val_main_v6_apply, val_main_v3_apply, val_main_v4_apply, val_main_v2_apply, val_main_v2_apply]
  show IntOp.cmpi .ne (BitVec.ofNat 32 n.val) (BitVec.ofNat 32 m.val) = _
  rw [WordCmp.cmpi_ne_eq_toNat]
  congr 1
  refine decide_eq_decide.mpr (not_congr ?_)
  simp [Fin.ext_iff]
  omega

theorem isLow (n : Fin 384) : IntOp.cmpi .slt (BitVec.ofNat 32 n.val) 192#32 = BitVec.ofBool (decide (Nodes.low n)) := by
  rw [WordCmp.cmpi_slt_of_lt (by simp; omega) (by decide)]
  congr 1
  refine decide_eq_decide.mpr ?_
  unfold Nodes.low
  simp
  omega

theorem same (n m : Fin 384) : val_main_v16 (F := Ideal) (ix2 n m) = BitVec.ofBool (decide (Nodes.low n ↔ Nodes.low m)) := by
  rw [val_main_v16_apply, val_main_v14_apply, val_main_v15_apply, val_main_v10_apply, val_main_v13_apply, val_main_v8_apply,
    val_main_v11_apply, val_main_v9_apply, val_main_v12_apply, val_main_v2_apply, val_main_v2_apply]
  show IntOp.cmpi .eq (IntOp.cmpi .slt (BitVec.ofNat 32 n.val) 192#32) (IntOp.cmpi .slt (BitVec.ofNat 32 m.val) 192#32) = _
  rw [isLow, isLow]
  by_cases h1 : Nodes.low n <;> by_cases h2 : Nodes.low m <;> simp [h1, h2] <;> rfl

theorem first (f o : Fin 128) : val_main_v18 (F := Ideal) x2 (ix2 f o) = x2 (ix3 0 f o) := by
  rw [val_main_v18_apply, val_main_v17_apply]
  refine congrArg x2 (ext3 rfl ?_ ?_)
  · show (f.val * 128 + o.val) / 128 % 128 = f.val
    omega
  · show (f.val * 128 + o.val) % 128 = o.val
    omega

theorem second (f o : Fin 128) : val_main_v21 (F := Ideal) x2 (ix2 f o) = x2 (ix3 1 f o) := by
  rw [val_main_v21_apply, val_main_v20_apply]
  refine congrArg x2 (ext3 rfl ?_ ?_)
  · show (f.val * 128 + o.val) / 128 % 128 = f.val
    omega
  · show (f.val * 128 + o.val) % 128 = o.val
    omega

/-- The layer's parameters. -/
abbrev P : Spec.Lay := lay x2 x3 x4 x5 x6 x7 x8 x9

theorem xw0 (b : Fin 4) (n : Fin 384) (o : Fin 128) :
    val_main_v19 (F := Ideal) x0 x1 x2 (ix3 b n o) = Nodes.xw (fun f o => x2 (ix3 0 f o)) (inp x0 x1 b) n o := by
  rw [val_main_v19_apply]
  refine Finset.sum_congr rfl fun f _ => congrArg₂ (· * ·) (at3 rfl) ?_
  exact at2 (first x2 f o)

theorem xw1 (b : Fin 4) (n : Fin 384) (o : Fin 128) :
    val_main_v22 (F := Ideal) x0 x1 x2 (ix3 b n o) = Nodes.xw (fun f o => x2 (ix3 1 f o)) (inp x0 x1 b) n o := by
  rw [val_main_v22_apply]
  refine Finset.sum_congr rfl fun f _ => congrArg₂ (· * ·) (at3 rfl) ?_
  exact at2 (second x2 f o)

theorem pre0 (b : Fin 4) (n m : Fin 384) : val_main_v28 (F := Ideal) x0 x1 x2 x3 x4 (ix3 b n m)
    = (∑ o, Nodes.xw (fun f o => x2 (ix3 0 f o)) (inp x0 x1 b) n o * x3 (ix2 o 0))
      + ∑ o, Nodes.xw (fun f o => x2 (ix3 0 f o)) (inp x0 x1 b) m o * x4 (ix2 o 0) := by
  rw [val_main_v28_apply, val_main_v26_apply, val_main_v27_apply, val_main_v25_apply, val_main_v23_apply, val_main_v24_apply]
  refine congrArg₂ (fun a b : EReal => a + b) (Finset.sum_congr rfl fun o _ => congrArg₂ (fun a b : EReal => a * b) ?_ (at2 rfl))
    (Finset.sum_congr rfl fun o _ => congrArg₂ (fun a b : EReal => a * b) ?_ (at2 rfl))
  · exact at3 (xw0 x0 x1 x2 b n o)
  · exact at3 (xw0 x0 x1 x2 b m o)

theorem pre1 (b : Fin 4) (n m : Fin 384) : val_main_v34 (F := Ideal) x0 x1 x2 x3 x4 (ix3 b n m)
    = (∑ o, Nodes.xw (fun f o => x2 (ix3 1 f o)) (inp x0 x1 b) n o * x3 (ix2 o 0))
      + ∑ o, Nodes.xw (fun f o => x2 (ix3 1 f o)) (inp x0 x1 b) m o * x4 (ix2 o 0) := by
  rw [val_main_v34_apply, val_main_v32_apply, val_main_v33_apply, val_main_v31_apply, val_main_v29_apply, val_main_v30_apply]
  refine congrArg₂ (fun a b : EReal => a + b) (Finset.sum_congr rfl fun o _ => congrArg₂ (fun a b : EReal => a * b) ?_ (at2 rfl))
    (Finset.sum_congr rfl fun o _ => congrArg₂ (fun a b : EReal => a * b) ?_ (at2 rfl))
  · exact at3 (xw1 x0 x1 x2 b n o)
  · exact at3 (xw1 x0 x1 x2 b m o)

theorem logit (b : Fin 4) (n m : Fin 384) : val_main_v40 (F := Ideal) x0 x1 x2 x3 x4 (ix3 b n m)
    = Nodes.logit (P x2 x3 x4 x5 x7 x8 x9 x6) (inp x0 x1 b) n m := by
  have h : val_main_v35 (F := Ideal) x0 x1 x2 x3 x4 (ix3 b n m)
      = if Nodes.low n ↔ Nodes.low m
        then (∑ o, Nodes.xw (P x2 x3 x4 x5 x7 x8 x9 x6).w0 (inp x0 x1 b) n o * (P x2 x3 x4 x5 x7 x8 x9 x6).q o) + ∑ o, Nodes.xw (P x2 x3 x4 x5 x7 x8 x9 x6).w0 (inp x0 x1 b) m o * (P x2 x3 x4 x5 x7 x8 x9 x6).k o
        else (∑ o, Nodes.xw (P x2 x3 x4 x5 x7 x8 x9 x6).w1 (inp x0 x1 b) n o * (P x2 x3 x4 x5 x7 x8 x9 x6).q o) + ∑ o, Nodes.xw (P x2 x3 x4 x5 x7 x8 x9 x6).w1 (inp x0 x1 b) m o * (P x2 x3 x4 x5 x7 x8 x9 x6).k o := by
    rw [val_main_v35_apply, val_main_call0_v0_apply, pre0, pre1]
    have hs : val_main_v16 (F := Ideal) (idx_main_call0_v0 (ix3 b n m)) = BitVec.ofBool (decide (Nodes.low n ↔ Nodes.low m)) :=
      at2 (same n m)
    rw [hs]
    exact select_ofBool _ _ _
  rw [val_main_v40_apply, val_main_v37_apply, val_main_v39_apply, val_main_v36_apply, val_main_v38_apply, h]
  unfold Nodes.logit
  generalize (if Nodes.low n ↔ Nodes.low m then _ else _ : EReal) = z
  show Scalar.select (BitVec.ofBool (decide (Ideal.ofBits .f32 0x00000000#32 ≤ z))) z (Spec.slope * z) = _
  rw [Ideal.ofBits_zero_f32]
  exact select_ofBool _ _ _

theorem maxed (b : Fin 4) (n : Fin 384) : val_main_v42 (F := Ideal) x0 x1 x2 x3 x4 (ix2 b n)
    = Nodes.amax (Nodes.logit (P x2 x3 x4 x5 x7 x8 x9 x6) (inp x0 x1 b) n) n := by
  unfold val_main_v42
  refine (maxRow _ _ neg_inf b n).trans ?_
  refine congrArg (Finset.univ.fold max ⊥) (funext fun m => ?_)
  rw [val_main_v41_apply, val_main_call2_v1_apply, logit x0 x1 x2 x3 x4 x5 x7 x8 x9 x6 b n m]
  have hs : val_main_v7 (F := Ideal) (idx_main_call2_v1 (ix3 b n m)) = BitVec.ofBool (decide (n ≠ m)) :=
    at2 (differ n m)
  rw [hs, select_ofBool]
  have hb : val_main_call2_v2 (F := Ideal) (ix3 b n m) = (⊥ : EReal) := by
    rw [val_main_call2_v2_apply]
    exact neg_inf
  rw [hb]

theorem shifted (b : Fin 4) (n : Fin 384) : val_main_v47 (F := Ideal) x0 x1 x2 x3 x4 (ix3 b n 0)
    = Nodes.shift (Nodes.amax (Nodes.logit (P x2 x3 x4 x5 x7 x8 x9 x6) (inp x0 x1 b) n) n) := by
  have h : val_main_v43 (F := Ideal) x0 x1 x2 x3 x4 (ix3 b n 0) = Nodes.amax (Nodes.logit (P x2 x3 x4 x5 x7 x8 x9 x6) (inp x0 x1 b) n) n := by
    rw [val_main_v43_apply]
    exact at2 (maxed x0 x1 x2 x3 x4 x5 x7 x8 x9 x6 b n)
  rw [val_main_v47_apply, val_main_v46_apply, val_main_v44_apply, val_main_v45_apply, val_main_call3_v1_apply, h]
  generalize Nodes.amax _ n = a
  show Scalar.select (BitVec.ofBool (decide (max a (-a) < Ideal.ofBits .f32 0x7F800000#32))) a (Ideal.ofBits .f32 0x00000000#32) = _
  rw [select_ofBool, pos_inf, Ideal.ofBits_zero_f32]
  rfl

theorem exed (b : Fin 4) (n m : Fin 384) : val_main_v51 (F := Ideal) x0 x1 x2 x3 x4 (ix3 b n m)
    = Nodes.ex (Nodes.logit (P x2 x3 x4 x5 x7 x8 x9 x6) (inp x0 x1 b) n) (Nodes.shift (Nodes.amax (Nodes.logit (P x2 x3 x4 x5 x7 x8 x9 x6) (inp x0 x1 b) n) n)) n m := by
  have h : val_main_v48 (F := Ideal) x0 x1 x2 x3 x4 (ix3 b n m) = Nodes.shift (Nodes.amax (Nodes.logit (P x2 x3 x4 x5 x7 x8 x9 x6) (inp x0 x1 b) n) n) := by
    rw [val_main_v48_apply]
    exact at3 (shifted x0 x1 x2 x3 x4 x5 x7 x8 x9 x6 b n)
  rw [val_main_v51_apply, val_main_call4_v1_apply, val_main_v50_apply, val_main_v49_apply, h, logit x0 x1 x2 x3 x4 x5 x7 x8 x9 x6 b n m]
  have hs : val_main_v7 (F := Ideal) (idx_main_call4_v1 (ix3 b n m)) = BitVec.ofBool (decide (n ≠ m)) :=
    at2 (differ n m)
  have hz : val_main_call4_v2 (F := Ideal) (ix3 b n m) = (0 : EReal) := by
    rw [val_main_call4_v2_apply]
    exact Ideal.ofBits_zero_f32
  rw [hs, hz, select_ofBool]
  rfl

theorem alpha (b : Fin 4) (n m : Fin 384) : val_main_v57 (F := Ideal) x0 x1 x2 x3 x4 (ix3 b n m)
    = Nodes.alpha (P x2 x3 x4 x5 x7 x8 x9 x6) (inp x0 x1 b) n m := by
  have h : val_main_v56 (F := Ideal) x0 x1 x2 x3 x4 (ix3 b n m)
      = (∑ m, Nodes.ex (Nodes.logit (P x2 x3 x4 x5 x7 x8 x9 x6) (inp x0 x1 b) n) (Nodes.shift (Nodes.amax (Nodes.logit (P x2 x3 x4 x5 x7 x8 x9 x6) (inp x0 x1 b) n) n)) n m) + Spec.tiny := by
    rw [val_main_v56_apply, val_main_v55_apply, val_main_v53_apply, val_main_v52_apply, val_main_v54_apply]
    refine congrArg₂ (fun a b : EReal => a + b) ?_ rfl
    refine (congrArg₂ (fun a b : EReal => a + b) Ideal.ofBits_zero_f32 (Finset.sum_congr rfl fun m _ => ?_)).trans (zero_add _)
    exact at3 (exed x0 x1 x2 x3 x4 x5 x7 x8 x9 x6 b n m)
  rw [val_main_v57_apply, h, exed x0 x1 x2 x3 x4 x5 x7 x8 x9 x6 b n m]
  rfl

theorem aggr (b : Fin 4) (n : Fin 384) (f : Fin 128) : val_main_v62 (F := Ideal) x0 x1 x2 x3 x4 (ix3 b n f)
    = Nodes.aggr (P x2 x3 x4 x5 x7 x8 x9 x6) (inp x0 x1 b) n f := by
  have h0 (m : Fin 384) : val_main_v58 (F := Ideal) x0 x1 x2 x3 x4 (ix3 b n m)
      = if Nodes.low n ↔ Nodes.low m then Nodes.alpha (P x2 x3 x4 x5 x7 x8 x9 x6) (inp x0 x1 b) n m else 0 := by
    have hs : val_main_v16 (F := Ideal) (idx_main_call5_v1 (ix3 b n m)) = BitVec.ofBool (decide (Nodes.low n ↔ Nodes.low m)) :=
      at2 (same n m)
    have hz : val_main_call5_v2 (F := Ideal) (ix3 b n m) = (0 : EReal) := by
      rw [val_main_call5_v2_apply]
      exact Ideal.ofBits_zero_f32
    rw [val_main_v58_apply, val_main_call5_v1_apply, hs, hz, alpha x0 x1 x2 x3 x4 x5 x7 x8 x9 x6 b n m]
    exact select_ofBool _ _ _
  have h1 (m : Fin 384) : val_main_v60 (F := Ideal) x0 x1 x2 x3 x4 (ix3 b n m)
      = if Nodes.low n ↔ Nodes.low m then 0 else Nodes.alpha (P x2 x3 x4 x5 x7 x8 x9 x6) (inp x0 x1 b) n m := by
    have hs : val_main_v16 (F := Ideal) (idx_main_call6_v1 (ix3 b n m)) = BitVec.ofBool (decide (Nodes.low n ↔ Nodes.low m)) :=
      at2 (same n m)
    have hz : val_main_call6_v2 (F := Ideal) (ix3 b n m) = (0 : EReal) := by
      rw [val_main_call6_v2_apply]
      exact Ideal.ofBits_zero_f32
    rw [val_main_v60_apply, val_main_call6_v1_apply, hs, hz, alpha x0 x1 x2 x3 x4 x5 x7 x8 x9 x6 b n m]
    exact select_ofBool _ _ _
  rw [val_main_v62_apply, val_main_v59_apply, val_main_v61_apply]
  refine congrArg₂ (fun a b : EReal => a + b)
    (Finset.sum_congr rfl fun m _ => congrArg₂ (fun a b : EReal => a * b)
      (at3 (h0 m))
      (at3 (xw0 x0 x1 x2 b m f)))
    (Finset.sum_congr rfl fun m _ => congrArg₂ (fun a b : EReal => a * b)
      (at3 (h1 m))
      (at3 (xw1 x0 x1 x2 b m f)))

theorem msg (b : Fin 4) (n : Fin 384) (f : Fin 128) : val_main_v67 (F := Ideal) x0 x1 x2 x3 x4 x5 (ix3 b n f)
    = max (Nodes.aggr (P x2 x3 x4 x5 x7 x8 x9 x6) (inp x0 x1 b) n f + (P x2 x3 x4 x5 x7 x8 x9 x6).bc f) 0 := by
  rw [val_main_v67_apply, val_main_v65_apply, val_main_v64_apply, val_main_v63_apply, val_main_v66_apply, aggr x0 x1 x2 x3 x4 x5 x7 x8 x9 x6 b n f]
  refine congrArg₂ (fun a b : EReal => max a b) ?_ Ideal.ofBits_zero_f32
  exact congrArg (fun a : EReal => Nodes.aggr (P x2 x3 x4 x5 x7 x8 x9 x6) (inp x0 x1 b) n f + a) (at1 rfl)

theorem linear (b : Fin 4) (n : Fin 384) (o : Fin 128) : val_main_v73 (F := Ideal) x0 x1 x2 x3 x4 x5 x6 x7 (ix3 b n o)
    = Nodes.m2 (P x2 x3 x4 x5 x7 x8 x9 x6) (inp x0 x1 b) n o := by
  rw [val_main_v73_apply, val_main_v72_apply, val_main_v71_apply, val_main_v70_apply]
  refine congrArg₂ (fun a b : EReal => a + b) ?_ (at1 rfl)
  have hk (j : Fin 256) : val_main_v68 (F := Ideal) x0 x1 x2 x3 x4 x5 (lidx_main_v70 (ix3 b n o) j) * val_main_v69 (F := Ideal) x6 (ridx_main_v70 (ix3 b n o) j)
      = val_main_v68 (F := Ideal) x0 x1 x2 x3 x4 x5 (ix3 b n j) * (x6 (ix2 o j) : EReal) := by
    rw [val_main_v69_apply]
    exact congrArg₂ (fun a b : EReal => a * b) (at3 rfl) (at2 rfl)
  refine (Finset.sum_congr rfl fun j _ => hk j).trans ?_
  unfold val_main_v68
  refine (joined _ _ (fun j => x6 (ix2 o j)) b n).trans ?_
  refine congrArg₂ (fun a b : EReal => a + b) rfl (Finset.sum_congr rfl fun f _ => congrArg₂ (fun a b : EReal => a * b) ?_ rfl)
  exact msg x0 x1 x2 x3 x4 x5 x7 x8 x9 x6 b n f

theorem mean (f : Fin 128) : val_main_v76 (F := Ideal) x0 x1 x2 x3 x4 x5 x6 x7 (ix1 f)
    = Nodes.mean (P x2 x3 x4 x5 x7 x8 x9 x6) (inp x0 x1) f := by
  rw [val_main_v76_apply, val_main_v75_apply]
  refine (div_nodeCount _).trans (congrArg (fun a : EReal => a * Spec.inv) ?_)
  unfold val_main_v74
  refine (sumAll _ _ Ideal.ofBits_zero_f32 f).trans ?_
  exact Finset.sum_congr rfl fun b _ => Finset.sum_congr rfl fun n _ => linear x0 x1 x2 x3 x4 x5 x7 x8 x9 x6 b n f

theorem cent1 (b : Fin 4) (n : Fin 384) (f : Fin 128) : val_main_v79 (F := Ideal) x0 x1 x2 x3 x4 x5 x6 x7 (ix3 b n f)
    = Nodes.cent (P x2 x3 x4 x5 x7 x8 x9 x6) (inp x0 x1) b n f := by
  rw [val_main_v79_apply, val_main_v78_apply, val_main_v77_apply, linear x0 x1 x2 x3 x4 x5 x7 x8 x9 x6 b n f]
  refine congrArg (fun a : EReal => Nodes.m2 (P x2 x3 x4 x5 x7 x8 x9 x6) (inp x0 x1 b) n f - a) ?_
  exact at1 (mean x0 x1 x2 x3 x4 x5 x7 x8 x9 x6 f)

theorem cent2 (b : Fin 4) (n : Fin 384) (f : Fin 128) : val_main_v82 (F := Ideal) x0 x1 x2 x3 x4 x5 x6 x7 (ix3 b n f)
    = Nodes.cent (P x2 x3 x4 x5 x7 x8 x9 x6) (inp x0 x1) b n f := by
  rw [val_main_v82_apply, val_main_v81_apply, val_main_v80_apply, linear x0 x1 x2 x3 x4 x5 x7 x8 x9 x6 b n f]
  refine congrArg (fun a : EReal => Nodes.m2 (P x2 x3 x4 x5 x7 x8 x9 x6) (inp x0 x1 b) n f - a) ?_
  exact at1 (mean x0 x1 x2 x3 x4 x5 x7 x8 x9 x6 f)

theorem cent3 (b : Fin 4) (n : Fin 384) (f : Fin 128) : val_main_v89 (F := Ideal) x0 x1 x2 x3 x4 x5 x6 x7 (ix3 b n f)
    = Nodes.cent (P x2 x3 x4 x5 x7 x8 x9 x6) (inp x0 x1) b n f := by
  rw [val_main_v89_apply, val_main_v88_apply, val_main_v87_apply, linear x0 x1 x2 x3 x4 x5 x7 x8 x9 x6 b n f]
  refine congrArg (fun a : EReal => Nodes.m2 (P x2 x3 x4 x5 x7 x8 x9 x6) (inp x0 x1 b) n f - a) ?_
  exact at1 (mean x0 x1 x2 x3 x4 x5 x7 x8 x9 x6 f)

theorem variance (f : Fin 128) : val_main_v91 (F := Ideal) x0 x1 x2 x3 x4 x5 x6 x7 (ix1 f)
    = Nodes.var (P x2 x3 x4 x5 x7 x8 x9 x6) (inp x0 x1) f := by
  rw [val_main_v91_apply, val_main_v86_apply, val_main_v85_apply, val_main_v90_apply]
  refine congrArg₂ (fun a b : EReal => a + b) ?_ rfl
  refine (div_nodeCount _).trans (congrArg (fun a : EReal => a * Spec.inv) ?_)
  unfold val_main_v84
  refine (sumAll _ _ Ideal.ofBits_zero_f32 f).trans ?_
  refine Finset.sum_congr rfl fun b _ => Finset.sum_congr rfl fun n _ => ?_
  rw [val_main_v83_apply, cent1 x0 x1 x2 x3 x4 x5 x7 x8 x9 x6 b n f, cent2 x0 x1 x2 x3 x4 x5 x7 x8 x9 x6 b n f]
  rfl

/-- The layer. -/
theorem layer (b : Fin 4) (n : Fin 384) (f : Fin 128) : val_main_v102 (F := Ideal) x0 x1 x2 x3 x4 x5 x6 x7 x8 x9 (ix3 b n f)
    = Nodes.layer (P x2 x3 x4 x5 x7 x8 x9 x6) (inp x0 x1) b n f := by
  have hv : val_main_v94 (F := Ideal) x0 x1 x2 x3 x4 x5 x6 x7 (ix3 b n f) = Ideal.sqrt (Nodes.var (P x2 x3 x4 x5 x7 x8 x9 x6) (inp x0 x1) f) := by
    rw [val_main_v94_apply, val_main_v93_apply, val_main_v92_apply]
    exact congrArg Ideal.sqrt (at1 (variance x0 x1 x2 x3 x4 x5 x7 x8 x9 x6 f))
  have hg : val_main_v97 (F := Ideal) x8 (ix3 b n f) = x8 (ix1 f) := by
    rw [val_main_v97_apply, val_main_v96_apply]
    exact at1 rfl
  have hb : val_main_v100 (F := Ideal) x9 (ix3 b n f) = x9 (ix1 f) := by
    rw [val_main_v100_apply, val_main_v99_apply]
    exact at1 rfl
  rw [val_main_v102_apply, val_main_v101_apply, val_main_v98_apply, val_main_v95_apply, hv, hg, hb, cent3 x0 x1 x2 x3 x4 x5 x7 x8 x9 x6 b n f]
  rfl

end Cert.Proof.Ref.First

end
-- ==== Proof.RefSecond.lean ====
/- The reference's second layer, one operation after another, read at an element: it is `Nodes.layer`. -/
module

public import proofs.«01_k».proof.Proof.RefCommon

@[expose] public section

noncomputable section

namespace Cert.Proof.Ref.Second

open Cert.ReferenceIdeal Cert.ReferenceIdeal.Gen Cert.ReferenceIdeal.Read Idealize.ShloMosaic ValueIdx Cert.Proof.Ref

variable (x0 x1 : (⟨S4x128x192, .f32⟩ : BufTy).Contents (Elt Ideal))
  (x2 x10 : (⟨S2x128x128, .f32⟩ : BufTy).Contents (Elt Ideal))
  (x3 x4 x11 x12 : (⟨S128x1, .f32⟩ : BufTy).Contents (Elt Ideal))
  (x5 x7 x8 x9 x13 x15 x16 x17 : (⟨S128, .f32⟩ : BufTy).Contents (Elt Ideal))
  (x6 x14 : (⟨S128x256, .f32⟩ : BufTy).Contents (Elt Ideal))

/-- The layer's input, a graph at a time. -/
abbrev inp (b : Fin 4) : Nodes.All := fun n f => val_main_v102 (F := Ideal) x0 x1 x2 x3 x4 x5 x6 x7 x8 x9 (ix3 b n f)

theorem differ (n m : Fin 384) : val_main_v108 (F := Ideal) (ix2 n m) = BitVec.ofBool (decide (n ≠ m)) := by
  rw [val_main_v108_apply, val_main_v106_apply, val_main_v107_apply, val_main_v104_apply, val_main_v105_apply, val_main_v103_apply, val_main_v103_apply]
  show IntOp.cmpi .ne (BitVec.ofNat 32 n.val) (BitVec.ofNat 32 m.val) = _
  rw [WordCmp.cmpi_ne_eq_toNat]
  congr 1
  refine decide_eq_decide.mpr (not_congr ?_)
  simp [Fin.ext_iff]
  omega

theorem isLow (n : Fin 384) : IntOp.cmpi .slt (BitVec.ofNat 32 n.val) 192#32 = BitVec.ofBool (decide (Nodes.low n)) := by
  rw [WordCmp.cmpi_slt_of_lt (by simp; omega) (by decide)]
  congr 1
  refine decide_eq_decide.mpr ?_
  unfold Nodes.low
  simp
  omega

theorem same (n m : Fin 384) : val_main_v117 (F := Ideal) (ix2 n m) = BitVec.ofBool (decide (Nodes.low n ↔ Nodes.low m)) := by
  rw [val_main_v117_apply, val_main_v115_apply, val_main_v116_apply, val_main_v111_apply, val_main_v114_apply, val_main_v109_apply,
    val_main_v112_apply, val_main_v110_apply, val_main_v113_apply, val_main_v103_apply, val_main_v103_apply]
  show IntOp.cmpi .eq (IntOp.cmpi .slt (BitVec.ofNat 32 n.val) 192#32) (IntOp.cmpi .slt (BitVec.ofNat 32 m.val) 192#32) = _
  rw [isLow, isLow]
  by_cases h1 : Nodes.low n <;> by_cases h2 : Nodes.low m <;> simp [h1, h2] <;> rfl

theorem first (f o : Fin 128) : val_main_v119 (F := Ideal) x10 (ix2 f o) = x10 (ix3 0 f o) := by
  rw [val_main_v119_apply, val_main_v118_apply]
  refine congrArg x10 (ext3 rfl ?_ ?_)
  · show (f.val * 128 + o.val) / 128 % 128 = f.val
    omega
  · show (f.val * 128 + o.val) % 128 = o.val
    omega

theorem second (f o : Fin 128) : val_main_v122 (F := Ideal) x10 (ix2 f o) = x10 (ix3 1 f o) := by
  rw [val_main_v122_apply, val_main_v121_apply]
  refine congrArg x10 (ext3 rfl ?_ ?_)
  · show (f.val * 128 + o.val) / 128 % 128 = f.val
    omega
  · show (f.val * 128 + o.val) % 128 = o.val
    omega

/-- The layer's parameters. -/
abbrev P : Spec.Lay := lay x10 x11 x12 x13 x14 x15 x16 x17

theorem xw0 (b : Fin 4) (n : Fin 384) (o : Fin 128) :
    val_main_v120 (F := Ideal) x0 x1 x2 x3 x4 x5 x6 x7 x8 x9 x10 (ix3 b n o) = Nodes.xw (fun f o => x10 (ix3 0 f o)) (inp x0 x1 x2 x3 x4 x5 x7 x8 x9 x6 b) n o := by
  rw [val_main_v120_apply]
  refine Finset.sum_congr rfl fun f _ => congrArg₂ (· * ·) (at3 rfl) ?_
  exact at2 (first x10 f o)

theorem xw1 (b : Fin 4) (n : Fin 384) (o : Fin 128) :
    val_main_v123 (F := Ideal) x0 x1 x2 x3 x4 x5 x6 x7 x8 x9 x10 (ix3 b n o) = Nodes.xw (fun f o => x10 (ix3 1 f o)) (inp x0 x1 x2 x3 x4 x5 x7 x8 x9 x6 b) n o := by
  rw [val_main_v123_apply]
  refine Finset.sum_congr rfl fun f _ => congrArg₂ (· * ·) (at3 rfl) ?_
  exact at2 (second x10 f o)

theorem pre0 (b : Fin 4) (n m : Fin 384) : val_main_v129 (F := Ideal) x0 x1 x2 x3 x4 x5 x6 x7 x8 x9 x10 x11 x12 (ix3 b n m)
    = (∑ o, Nodes.xw (fun f o => x10 (ix3 0 f o)) (inp x0 x1 x2 x3 x4 x5 x7 x8 x9 x6 b) n o * x11 (ix2 o 0))
      + ∑ o, Nodes.xw (fun f o => x10 (ix3 0 f o)) (inp x0 x1 x2 x3 x4 x5 x7 x8 x9 x6 b) m o * x12 (ix2 o 0) := by
  rw [val_main_v129_apply, val_main_v127_apply, val_main_v128_apply, val_main_v126_apply, val_main_v124_apply, val_main_v125_apply]
  refine congrArg₂ (fun a b : EReal => a + b) (Finset.sum_congr rfl fun o _ => congrArg₂ (fun a b : EReal => a * b) ?_ (at2 rfl))
    (Finset.sum_congr rfl fun o _ => congrArg₂ (fun a b : EReal => a * b) ?_ (at2 rfl))
  · exact at3 (xw0 x0 x1 x2 x10 x3 x4 x5 x7 x8 x9 x6 b n o)
  · exact at3 (xw0 x0 x1 x2 x10 x3 x4 x5 x7 x8 x9 x6 b m o)

theorem pre1 (b : Fin 4) (n m : Fin 384) : val_main_v135 (F := Ideal) x0 x1 x2 x3 x4 x5 x6 x7 x8 x9 x10 x11 x12 (ix3 b n m)
    = (∑ o, Nodes.xw (fun f o => x10 (ix3 1 f o)) (inp x0 x1 x2 x3 x4 x5 x7 x8 x9 x6 b) n o * x11 (ix2 o 0))
      + ∑ o, Nodes.xw (fun f o => x10 (ix3 1 f o)) (inp x0 x1 x2 x3 x4 x5 x7 x8 x9 x6 b) m o * x12 (ix2 o 0) := by
  rw [val_main_v135_apply, val_main_v133_apply, val_main_v134_apply, val_main_v132_apply, val_main_v130_apply, val_main_v131_apply]
  refine congrArg₂ (fun a b : EReal => a + b) (Finset.sum_congr rfl fun o _ => congrArg₂ (fun a b : EReal => a * b) ?_ (at2 rfl))
    (Finset.sum_congr rfl fun o _ => congrArg₂ (fun a b : EReal => a * b) ?_ (at2 rfl))
  · exact at3 (xw1 x0 x1 x2 x10 x3 x4 x5 x7 x8 x9 x6 b n o)
  · exact at3 (xw1 x0 x1 x2 x10 x3 x4 x5 x7 x8 x9 x6 b m o)

theorem logit (b : Fin 4) (n m : Fin 384) : val_main_v141 (F := Ideal) x0 x1 x2 x3 x4 x5 x6 x7 x8 x9 x10 x11 x12 (ix3 b n m)
    = Nodes.logit (P x10 x11 x12 x13 x15 x16 x17 x14) (inp x0 x1 x2 x3 x4 x5 x7 x8 x9 x6 b) n m := by
  have h : val_main_v136 (F := Ideal) x0 x1 x2 x3 x4 x5 x6 x7 x8 x9 x10 x11 x12 (ix3 b n m)
      = if Nodes.low n ↔ Nodes.low m
        then (∑ o, Nodes.xw (P x10 x11 x12 x13 x15 x16 x17 x14).w0 (inp x0 x1 x2 x3 x4 x5 x7 x8 x9 x6 b) n o * (P x10 x11 x12 x13 x15 x16 x17 x14).q o) + ∑ o, Nodes.xw (P x10 x11 x12 x13 x15 x16 x17 x14).w0 (inp x0 x1 x2 x3 x4 x5 x7 x8 x9 x6 b) m o * (P x10 x11 x12 x13 x15 x16 x17 x14).k o
        else (∑ o, Nodes.xw (P x10 x11 x12 x13 x15 x16 x17 x14).w1 (inp x0 x1 x2 x3 x4 x5 x7 x8 x9 x6 b) n o * (P x10 x11 x12 x13 x15 x16 x17 x14).q o) + ∑ o, Nodes.xw (P x10 x11 x12 x13 x15 x16 x17 x14).w1 (inp x0 x1 x2 x3 x4 x5 x7 x8 x9 x6 b) m o * (P x10 x11 x12 x13 x15 x16 x17 x14).k o := by
    rw [val_main_v136_apply, val_main_call7_v0_apply, pre0, pre1]
    have hs : val_main_v117 (F := Ideal) (idx_main_call7_v0 (ix3 b n m)) = BitVec.ofBool (decide (Nodes.low n ↔ Nodes.low m)) :=
      at2 (same n m)
    rw [hs]
    exact select_ofBool _ _ _
  rw [val_main_v141_apply, val_main_v138_apply, val_main_v140_apply, val_main_v137_apply, val_main_v139_apply, h]
  unfold Nodes.logit
  generalize (if Nodes.low n ↔ Nodes.low m then _ else _ : EReal) = z
  show Scalar.select (BitVec.ofBool (decide (Ideal.ofBits .f32 0x00000000#32 ≤ z))) z (Spec.slope * z) = _
  rw [Ideal.ofBits_zero_f32]
  exact select_ofBool _ _ _

theorem maxed (b : Fin 4) (n : Fin 384) : val_main_v143 (F := Ideal) x0 x1 x2 x3 x4 x5 x6 x7 x8 x9 x10 x11 x12 (ix2 b n)
    = Nodes.amax (Nodes.logit (P x10 x11 x12 x13 x15 x16 x17 x14) (inp x0 x1 x2 x3 x4 x5 x7 x8 x9 x6 b) n) n := by
  unfold val_main_v143
  refine (maxRow _ _ neg_inf b n).trans ?_
  refine congrArg (Finset.univ.fold max ⊥) (funext fun m => ?_)
  rw [val_main_v142_apply, val_main_call9_v1_apply, logit x0 x1 x2 x10 x3 x4 x11 x12 x5 x7 x8 x9 x13 x15 x16 x17 x6 x14 b n m]
  have hs : val_main_v108 (F := Ideal) (idx_main_call9_v1 (ix3 b n m)) = BitVec.ofBool (decide (n ≠ m)) :=
    at2 (differ n m)
  rw [hs, select_ofBool]
  have hb : val_main_call9_v2 (F := Ideal) (ix3 b n m) = (⊥ : EReal) := by
    rw [val_main_call9_v2_apply]
    exact neg_inf
  rw [hb]

theorem shifted (b : Fin 4) (n : Fin 384) : val_main_v148 (F := Ideal) x0 x1 x2 x3 x4 x5 x6 x7 x8 x9 x10 x11 x12 (ix3 b n 0)
    = Nodes.shift (Nodes.amax (Nodes.logit (P x10 x11 x12 x13 x15 x16 x17 x14) (inp x0 x1 x2 x3 x4 x5 x7 x8 x9 x6 b) n) n) := by
  have h : val_main_v144 (F := Ideal) x0 x1 x2 x3 x4 x5 x6 x7 x8 x9 x10 x11 x12 (ix3 b n 0) = Nodes.amax (Nodes.logit (P x10 x11 x12 x13 x15 x16 x17 x14) (inp x0 x1 x2 x3 x4 x5 x7 x8 x9 x6 b) n) n := by
    rw [val_main_v144_apply]
    exact at2 (maxed x0 x1 x2 x10 x3 x4 x11 x12 x5 x7 x8 x9 x13 x15 x16 x17 x6 x14 b n)
  rw [val_main_v148_apply, val_main_v147_apply, val_main_v145_apply, val_main_v146_apply, val_main_call10_v1_apply, h]
  generalize Nodes.amax _ n = a
  show Scalar.select (BitVec.ofBool (decide (max a (-a) < Ideal.ofBits .f32 0x7F800000#32))) a (Ideal.ofBits .f32 0x00000000#32) = _
  rw [select_ofBool, pos_inf, Ideal.ofBits_zero_f32]
  rfl

theorem exed (b : Fin 4) (n m : Fin 384) : val_main_v152 (F := Ideal) x0 x1 x2 x3 x4 x5 x6 x7 x8 x9 x10 x11 x12 (ix3 b n m)
    = Nodes.ex (Nodes.logit (P x10 x11 x12 x13 x15 x16 x17 x14) (inp x0 x1 x2 x3 x4 x5 x7 x8 x9 x6 b) n) (Nodes.shift (Nodes.amax (Nodes.logit (P x10 x11 x12 x13 x15 x16 x17 x14) (inp x0 x1 x2 x3 x4 x5 x7 x8 x9 x6 b) n) n)) n m := by
  have h : val_main_v149 (F := Ideal) x0 x1 x2 x3 x4 x5 x6 x7 x8 x9 x10 x11 x12 (ix3 b n m) = Nodes.shift (Nodes.amax (Nodes.logit (P x10 x11 x12 x13 x15 x16 x17 x14) (inp x0 x1 x2 x3 x4 x5 x7 x8 x9 x6 b) n) n) := by
    rw [val_main_v149_apply]
    exact at3 (shifted x0 x1 x2 x10 x3 x4 x11 x12 x5 x7 x8 x9 x13 x15 x16 x17 x6 x14 b n)
  rw [val_main_v152_apply, val_main_call11_v1_apply, val_main_v151_apply, val_main_v150_apply, h, logit x0 x1 x2 x10 x3 x4 x11 x12 x5 x7 x8 x9 x13 x15 x16 x17 x6 x14 b n m]
  have hs : val_main_v108 (F := Ideal) (idx_main_call11_v1 (ix3 b n m)) = BitVec.ofBool (decide (n ≠ m)) :=
    at2 (differ n m)
  have hz : val_main_call11_v2 (F := Ideal) (ix3 b n m) = (0 : EReal) := by
    rw [val_main_call11_v2_apply]
    exact Ideal.ofBits_zero_f32
  rw [hs, hz, select_ofBool]
  rfl

theorem alpha (b : Fin 4) (n m : Fin 384) : val_main_v158 (F := Ideal) x0 x1 x2 x3 x4 x5 x6 x7 x8 x9 x10 x11 x12 (ix3 b n m)
    = Nodes.alpha (P x10 x11 x12 x13 x15 x16 x17 x14) (inp x0 x1 x2 x3 x4 x5 x7 x8 x9 x6 b) n m := by
  have h : val_main_v157 (F := Ideal) x0 x1 x2 x3 x4 x5 x6 x7 x8 x9 x10 x11 x12 (ix3 b n m)
      = (∑ m, Nodes.ex (Nodes.logit (P x10 x11 x12 x13 x15 x16 x17 x14) (inp x0 x1 x2 x3 x4 x5 x7 x8 x9 x6 b) n) (Nodes.shift (Nodes.amax (Nodes.logit (P x10 x11 x12 x13 x15 x16 x17 x14) (inp x0 x1 x2 x3 x4 x5 x7 x8 x9 x6 b) n) n)) n m) + Spec.tiny := by
    rw [val_main_v157_apply, val_main_v156_apply, val_main_v154_apply, val_main_v153_apply, val_main_v155_apply]
    refine congrArg₂ (fun a b : EReal => a + b) ?_ rfl
    refine (congrArg₂ (fun a b : EReal => a + b) Ideal.ofBits_zero_f32 (Finset.sum_congr rfl fun m _ => ?_)).trans (zero_add _)
    exact at3 (exed x0 x1 x2 x10 x3 x4 x11 x12 x5 x7 x8 x9 x13 x15 x16 x17 x6 x14 b n m)
  rw [val_main_v158_apply, h, exed x0 x1 x2 x10 x3 x4 x11 x12 x5 x7 x8 x9 x13 x15 x16 x17 x6 x14 b n m]
  rfl

theorem aggr (b : Fin 4) (n : Fin 384) (f : Fin 128) : val_main_v163 (F := Ideal) x0 x1 x2 x3 x4 x5 x6 x7 x8 x9 x10 x11 x12 (ix3 b n f)
    = Nodes.aggr (P x10 x11 x12 x13 x15 x16 x17 x14) (inp x0 x1 x2 x3 x4 x5 x7 x8 x9 x6 b) n f := by
  have h0 (m : Fin 384) : val_main_v159 (F := Ideal) x0 x1 x2 x3 x4 x5 x6 x7 x8 x9 x10 x11 x12 (ix3 b n m)
      = if Nodes.low n ↔ Nodes.low m then Nodes.alpha (P x10 x11 x12 x13 x15 x16 x17 x14) (inp x0 x1 x2 x3 x4 x5 x7 x8 x9 x6 b) n m else 0 := by
    have hs : val_main_v117 (F := Ideal) (idx_main_call12_v1 (ix3 b n m)) = BitVec.ofBool (decide (Nodes.low n ↔ Nodes.low m)) :=
      at2 (same n m)
    have hz : val_main_call12_v2 (F := Ideal) (ix3 b n m) = (0 : EReal) := by
      rw [val_main_call12_v2_apply]
      exact Ideal.ofBits_zero_f32
    rw [val_main_v159_apply, val_main_call12_v1_apply, hs, hz, alpha x0 x1 x2 x10 x3 x4 x11 x12 x5 x7 x8 x9 x13 x15 x16 x17 x6 x14 b n m]
    exact select_ofBool _ _ _
  have h1 (m : Fin 384) : val_main_v161 (F := Ideal) x0 x1 x2 x3 x4 x5 x6 x7 x8 x9 x10 x11 x12 (ix3 b n m)
      = if Nodes.low n ↔ Nodes.low m then 0 else Nodes.alpha (P x10 x11 x12 x13 x15 x16 x17 x14) (inp x0 x1 x2 x3 x4 x5 x7 x8 x9 x6 b) n m := by
    have hs : val_main_v117 (F := Ideal) (idx_main_call13_v1 (ix3 b n m)) = BitVec.ofBool (decide (Nodes.low n ↔ Nodes.low m)) :=
      at2 (same n m)
    have hz : val_main_call13_v2 (F := Ideal) (ix3 b n m) = (0 : EReal) := by
      rw [val_main_call13_v2_apply]
      exact Ideal.ofBits_zero_f32
    rw [val_main_v161_apply, val_main_call13_v1_apply, hs, hz, alpha x0 x1 x2 x10 x3 x4 x11 x12 x5 x7 x8 x9 x13 x15 x16 x17 x6 x14 b n m]
    exact select_ofBool _ _ _
  rw [val_main_v163_apply, val_main_v160_apply, val_main_v162_apply]
  refine congrArg₂ (fun a b : EReal => a + b)
    (Finset.sum_congr rfl fun m _ => congrArg₂ (fun a b : EReal => a * b)
      (at3 (h0 m))
      (at3 (xw0 x0 x1 x2 x10 x3 x4 x5 x7 x8 x9 x6 b m f)))
    (Finset.sum_congr rfl fun m _ => congrArg₂ (fun a b : EReal => a * b)
      (at3 (h1 m))
      (at3 (xw1 x0 x1 x2 x10 x3 x4 x5 x7 x8 x9 x6 b m f)))

theorem msg (b : Fin 4) (n : Fin 384) (f : Fin 128) : val_main_v168 (F := Ideal) x0 x1 x2 x3 x4 x5 x6 x7 x8 x9 x10 x11 x12 x13 (ix3 b n f)
    = max (Nodes.aggr (P x10 x11 x12 x13 x15 x16 x17 x14) (inp x0 x1 x2 x3 x4 x5 x7 x8 x9 x6 b) n f + (P x10 x11 x12 x13 x15 x16 x17 x14).bc f) 0 := by
  rw [val_main_v168_apply, val_main_v166_apply, val_main_v165_apply, val_main_v164_apply, val_main_v167_apply, aggr x0 x1 x2 x10 x3 x4 x11 x12 x5 x7 x8 x9 x13 x15 x16 x17 x6 x14 b n f]
  refine congrArg₂ (fun a b : EReal => max a b) ?_ Ideal.ofBits_zero_f32
  exact congrArg (fun a : EReal => Nodes.aggr (P x10 x11 x12 x13 x15 x16 x17 x14) (inp x0 x1 x2 x3 x4 x5 x7 x8 x9 x6 b) n f + a) (at1 rfl)

theorem linear (b : Fin 4) (n : Fin 384) (o : Fin 128) : val_main_v174 (F := Ideal) x0 x1 x2 x3 x4 x5 x6 x7 x8 x9 x10 x11 x12 x13 x14 x15 (ix3 b n o)
    = Nodes.m2 (P x10 x11 x12 x13 x15 x16 x17 x14) (inp x0 x1 x2 x3 x4 x5 x7 x8 x9 x6 b) n o := by
  rw [val_main_v174_apply, val_main_v173_apply, val_main_v172_apply, val_main_v171_apply]
  refine congrArg₂ (fun a b : EReal => a + b) ?_ (at1 rfl)
  have hk (j : Fin 256) : val_main_v169 (F := Ideal) x0 x1 x2 x3 x4 x5 x6 x7 x8 x9 x10 x11 x12 x13 (lidx_main_v171 (ix3 b n o) j) * val_main_v170 (F := Ideal) x14 (ridx_main_v171 (ix3 b n o) j)
      = val_main_v169 (F := Ideal) x0 x1 x2 x3 x4 x5 x6 x7 x8 x9 x10 x11 x12 x13 (ix3 b n j) * (x14 (ix2 o j) : EReal) := by
    rw [val_main_v170_apply]
    exact congrArg₂ (fun a b : EReal => a * b) (at3 rfl) (at2 rfl)
  refine (Finset.sum_congr rfl fun j _ => hk j).trans ?_
  unfold val_main_v169
  refine (joined _ _ (fun j => x14 (ix2 o j)) b n).trans ?_
  refine congrArg₂ (fun a b : EReal => a + b) rfl (Finset.sum_congr rfl fun f _ => congrArg₂ (fun a b : EReal => a * b) ?_ rfl)
  exact msg x0 x1 x2 x10 x3 x4 x11 x12 x5 x7 x8 x9 x13 x15 x16 x17 x6 x14 b n f

theorem mean (f : Fin 128) : val_main_v177 (F := Ideal) x0 x1 x2 x3 x4 x5 x6 x7 x8 x9 x10 x11 x12 x13 x14 x15 (ix1 f)
    = Nodes.mean (P x10 x11 x12 x13 x15 x16 x17 x14) (inp x0 x1 x2 x3 x4 x5 x7 x8 x9 x6) f := by
  rw [val_main_v177_apply, val_main_v176_apply]
  refine (div_nodeCount _).trans (congrArg (fun a : EReal => a * Spec.inv) ?_)
  unfold val_main_v175
  refine (sumAll _ _ Ideal.ofBits_zero_f32 f).trans ?_
  exact Finset.sum_congr rfl fun b _ => Finset.sum_congr rfl fun n _ => linear x0 x1 x2 x10 x3 x4 x11 x12 x5 x7 x8 x9 x13 x15 x16 x17 x6 x14 b n f

theorem cent1 (b : Fin 4) (n : Fin 384) (f : Fin 128) : val_main_v180 (F := Ideal) x0 x1 x2 x3 x4 x5 x6 x7 x8 x9 x10 x11 x12 x13 x14 x15 (ix3 b n f)
    = Nodes.cent (P x10 x11 x12 x13 x15 x16 x17 x14) (inp x0 x1 x2 x3 x4 x5 x7 x8 x9 x6) b n f := by
  rw [val_main_v180_apply, val_main_v179_apply, val_main_v178_apply, linear x0 x1 x2 x10 x3 x4 x11 x12 x5 x7 x8 x9 x13 x15 x16 x17 x6 x14 b n f]
  refine congrArg (fun a : EReal => Nodes.m2 (P x10 x11 x12 x13 x15 x16 x17 x14) (inp x0 x1 x2 x3 x4 x5 x7 x8 x9 x6 b) n f - a) ?_
  exact at1 (mean x0 x1 x2 x10 x3 x4 x11 x12 x5 x7 x8 x9 x13 x15 x16 x17 x6 x14 f)

theorem cent2 (b : Fin 4) (n : Fin 384) (f : Fin 128) : val_main_v183 (F := Ideal) x0 x1 x2 x3 x4 x5 x6 x7 x8 x9 x10 x11 x12 x13 x14 x15 (ix3 b n f)
    = Nodes.cent (P x10 x11 x12 x13 x15 x16 x17 x14) (inp x0 x1 x2 x3 x4 x5 x7 x8 x9 x6) b n f := by
  rw [val_main_v183_apply, val_main_v182_apply, val_main_v181_apply, linear x0 x1 x2 x10 x3 x4 x11 x12 x5 x7 x8 x9 x13 x15 x16 x17 x6 x14 b n f]
  refine congrArg (fun a : EReal => Nodes.m2 (P x10 x11 x12 x13 x15 x16 x17 x14) (inp x0 x1 x2 x3 x4 x5 x7 x8 x9 x6 b) n f - a) ?_
  exact at1 (mean x0 x1 x2 x10 x3 x4 x11 x12 x5 x7 x8 x9 x13 x15 x16 x17 x6 x14 f)

theorem cent3 (b : Fin 4) (n : Fin 384) (f : Fin 128) : val_main_v190 (F := Ideal) x0 x1 x2 x3 x4 x5 x6 x7 x8 x9 x10 x11 x12 x13 x14 x15 (ix3 b n f)
    = Nodes.cent (P x10 x11 x12 x13 x15 x16 x17 x14) (inp x0 x1 x2 x3 x4 x5 x7 x8 x9 x6) b n f := by
  rw [val_main_v190_apply, val_main_v189_apply, val_main_v188_apply, linear x0 x1 x2 x10 x3 x4 x11 x12 x5 x7 x8 x9 x13 x15 x16 x17 x6 x14 b n f]
  refine congrArg (fun a : EReal => Nodes.m2 (P x10 x11 x12 x13 x15 x16 x17 x14) (inp x0 x1 x2 x3 x4 x5 x7 x8 x9 x6 b) n f - a) ?_
  exact at1 (mean x0 x1 x2 x10 x3 x4 x11 x12 x5 x7 x8 x9 x13 x15 x16 x17 x6 x14 f)

theorem variance (f : Fin 128) : val_main_v192 (F := Ideal) x0 x1 x2 x3 x4 x5 x6 x7 x8 x9 x10 x11 x12 x13 x14 x15 (ix1 f)
    = Nodes.var (P x10 x11 x12 x13 x15 x16 x17 x14) (inp x0 x1 x2 x3 x4 x5 x7 x8 x9 x6) f := by
  rw [val_main_v192_apply, val_main_v187_apply, val_main_v186_apply, val_main_v191_apply]
  refine congrArg₂ (fun a b : EReal => a + b) ?_ rfl
  refine (div_nodeCount _).trans (congrArg (fun a : EReal => a * Spec.inv) ?_)
  unfold val_main_v185
  refine (sumAll _ _ Ideal.ofBits_zero_f32 f).trans ?_
  refine Finset.sum_congr rfl fun b _ => Finset.sum_congr rfl fun n _ => ?_
  rw [val_main_v184_apply, cent1 x0 x1 x2 x10 x3 x4 x11 x12 x5 x7 x8 x9 x13 x15 x16 x17 x6 x14 b n f, cent2 x0 x1 x2 x10 x3 x4 x11 x12 x5 x7 x8 x9 x13 x15 x16 x17 x6 x14 b n f]
  rfl

/-- The layer. -/
theorem layer (b : Fin 4) (n : Fin 384) (f : Fin 128) : val_main_v203 (F := Ideal) x0 x1 x2 x3 x4 x5 x6 x7 x8 x9 x10 x11 x12 x13 x14 x15 x16 x17 (ix3 b n f)
    = Nodes.layer (P x10 x11 x12 x13 x15 x16 x17 x14) (inp x0 x1 x2 x3 x4 x5 x7 x8 x9 x6) b n f := by
  have hv : val_main_v195 (F := Ideal) x0 x1 x2 x3 x4 x5 x6 x7 x8 x9 x10 x11 x12 x13 x14 x15 (ix3 b n f) = Ideal.sqrt (Nodes.var (P x10 x11 x12 x13 x15 x16 x17 x14) (inp x0 x1 x2 x3 x4 x5 x7 x8 x9 x6) f) := by
    rw [val_main_v195_apply, val_main_v194_apply, val_main_v193_apply]
    exact congrArg Ideal.sqrt (at1 (variance x0 x1 x2 x10 x3 x4 x11 x12 x5 x7 x8 x9 x13 x15 x16 x17 x6 x14 f))
  have hg : val_main_v198 (F := Ideal) x16 (ix3 b n f) = x16 (ix1 f) := by
    rw [val_main_v198_apply, val_main_v197_apply]
    exact at1 rfl
  have hb : val_main_v201 (F := Ideal) x17 (ix3 b n f) = x17 (ix1 f) := by
    rw [val_main_v201_apply, val_main_v200_apply]
    exact at1 rfl
  rw [val_main_v203_apply, val_main_v202_apply, val_main_v199_apply, val_main_v196_apply, hv, hg, hb, cent3 x0 x1 x2 x10 x3 x4 x11 x12 x5 x7 x8 x9 x13 x15 x16 x17 x6 x14 b n f]
  rfl

end Cert.Proof.Ref.Second

end
-- ==== Proof.RefEnd.lean ====
/- The reference's two results read at an element: two layers over the graphs' node sets. -/
module

public import proofs.«01_k».proof.Proof.RefFirst
public import proofs.«01_k».proof.Proof.RefSecond

@[expose] public section

noncomputable section

namespace Cert.Proof.Ref

open Cert.ReferenceIdeal Cert.ReferenceIdeal.Gen Cert.ReferenceIdeal.Read Idealize.ShloMosaic ValueIdx

variable (x0 x1 : (⟨S4x128x192, .f32⟩ : BufTy).Contents (Elt Ideal))
  (x2 x10 : (⟨S2x128x128, .f32⟩ : BufTy).Contents (Elt Ideal))
  (x3 x4 x11 x12 : (⟨S128x1, .f32⟩ : BufTy).Contents (Elt Ideal))
  (x5 x7 x8 x9 x13 x15 x16 x17 : (⟨S128, .f32⟩ : BufTy).Contents (Elt Ideal))
  (x6 x14 : (⟨S128x256, .f32⟩ : BufTy).Contents (Elt Ideal))

/-- The eight sets of nodes the arguments give. -/
def input (b : Fin 4) (t : Fin 2) : Spec.Feat := fun s f => if t = 0 then x0 (ix3 b f s) else x1 (ix3 b f s)

/-- Feature `f` of graph `b` in a result's rows. -/
def row (b : Fin 4) (f : Fin 128) : Fin 512 := ⟨b.val * 128 + f.val, by omega⟩

theorem inp_left (b : Fin 4) (s : Fin 192) (f : Fin 128) : First.inp x0 x1 b (Nodes.nd 0 s) f = x0 (ix3 b f s) := by
  show val_main_v1 (F := Ideal) x0 x1 (ix3 b (Nodes.nd 0 s) f) = _
  rw [val_main_v1_apply, val_main_v0]
  exact concatenate_pair_apply_left (t := S4x128x384) 2 x0 x1 concatenates_S4x128x192_S4x128x192_S4x128x384_d2 _ rfl (ix3 b f s)
    (fun a => match a with | ⟨0, _⟩ => rfl | ⟨1, _⟩ => rfl | ⟨2, _⟩ => (by show s.val = 0 * 192 + s.val; omega))

theorem inp_right (b : Fin 4) (s : Fin 192) (f : Fin 128) : First.inp x0 x1 b (Nodes.nd 1 s) f = x1 (ix3 b f s) := by
  show val_main_v1 (F := Ideal) x0 x1 (ix3 b (Nodes.nd 1 s) f) = _
  rw [val_main_v1_apply, val_main_v0]
  exact concatenate_pair_apply_right (t := S4x128x384) 2 x0 x1 concatenates_S4x128x192_S4x128x192_S4x128x384_d2 _ rfl rfl (ix3 b f s)
    (fun a h => match a, h with | ⟨0, _⟩, _ => rfl | ⟨1, _⟩, _ => rfl | ⟨2, _⟩, h => absurd rfl h)
    (by show s.val + 192 = 1 * 192 + s.val; omega)

theorem sets_inp (b : Fin 4) : Nodes.sets (First.inp x0 x1 b) = input x0 x1 b := by
  funext t s f
  match t with
  | 0 => exact (inp_left x0 x1 b s f).trans (if_pos rfl).symm
  | 1 => exact (inp_right x0 x1 b s f).trans (if_neg (by decide)).symm

/-- The two layers at a node of a set. -/
theorem layers (b : Fin 4) (t : Fin 2) (s : Fin 192) (f : Fin 128) :
    val_main_v203 (F := Ideal) x0 x1 x2 x3 x4 x5 x6 x7 x8 x9 x10 x11 x12 x13 x14 x15 x16 x17 (ix3 b (Nodes.nd t s) f)
      = Spec.layer (lay x10 x11 x12 x13 x14 x15 x16 x17) (Spec.layer (lay x2 x3 x4 x5 x6 x7 x8 x9) (input x0 x1)) b t s f := by
  rw [Second.layer]
  have h : Second.inp x0 x1 x2 x3 x4 x5 x7 x8 x9 x6 = Nodes.layer (lay x2 x3 x4 x5 x6 x7 x8 x9) (First.inp x0 x1) := by
    funext b n f
    exact First.layer x0 x1 x2 x3 x4 x5 x7 x8 x9 x6 b n f
  rw [h, Nodes.layer_layer]
  rw [show (fun b => Nodes.sets (First.inp x0 x1 b)) = input x0 x1 from funext fun b => sets_inp x0 x1 b]

theorem result_left (b : Fin 4) (f : Fin 128) (s : Fin 192) :
    val_main_v206 (F := Ideal) x0 x1 x2 x3 x4 x5 x6 x7 x8 x9 x10 x11 x12 x13 x14 x15 x16 x17 (ix2 (row b f) s)
      = Spec.layer (lay x10 x11 x12 x13 x14 x15 x16 x17) (Spec.layer (lay x2 x3 x4 x5 x6 x7 x8 x9) (input x0 x1)) b 0 s f := by
  rw [val_main_v206_apply, val_main_v205_apply, val_main_v204_apply]
  refine at3 (layers x0 x1 x2 x10 x3 x4 x11 x12 x5 x7 x8 x9 x13 x15 x16 x17 x6 x14 b 0 s f) ?_ ?_ ?_
  · show ((b.val * 128 + f.val) * 192 + s.val) / 24576 = b.val; omega
  · show ((b.val * 128 + f.val) * 192 + s.val) % 192 = 0 * 192 + s.val; omega
  · show ((b.val * 128 + f.val) * 192 + s.val) / 192 % 128 = f.val; omega

theorem result_right (b : Fin 4) (f : Fin 128) (s : Fin 192) :
    val_main_v208 (F := Ideal) x0 x1 x2 x3 x4 x5 x6 x7 x8 x9 x10 x11 x12 x13 x14 x15 x16 x17 (ix2 (row b f) s)
      = Spec.layer (lay x10 x11 x12 x13 x14 x15 x16 x17) (Spec.layer (lay x2 x3 x4 x5 x6 x7 x8 x9) (input x0 x1)) b 1 s f := by
  rw [val_main_v208_apply, val_main_v207_apply, val_main_v204_apply]
  refine at3 (layers x0 x1 x2 x10 x3 x4 x11 x12 x5 x7 x8 x9 x13 x15 x16 x17 x6 x14 b 1 s f) ?_ ?_ ?_
  · show ((b.val * 128 + f.val) * 192 + s.val) / 24576 = b.val; omega
  · show 192 + ((b.val * 128 + f.val) * 192 + s.val) % 192 = 1 * 192 + s.val; omega
  · show ((b.val * 128 + f.val) * 192 + s.val) / 192 % 128 = f.val; omega

end Cert.Proof.Ref

end
-- ==== Proof.Match.lean ====
/- The kernel's parameters and tiles, read off its windows' arrays, are the reference's. -/
module

public import proofs.«01_k».proof.Proof.Host
public import proofs.«01_k».proof.Proof.RefEnd
public import Idealize.ShloMosaic.Lib.Pipeline.ValueKit

@[expose] public section

noncomputable section

namespace Cert.Proof.Host

open Idealize.ShloMosaic hiding ix1 ix2 ix3
open Idealize.ShloMosaic.TcCoe ValueIdx Idealize.SL.Sem Cert.KernelIdeal Cert.KernelIdeal.Gen Cert.Proof.Tiles

/-- Column `j` of the packed columns is the column put there. -/
theorem side_by_side (x : Fin 6 → S128x1.Idx → EReal) (v : S_.Idx → EReal) (f : Fin 128) (j : Fin 6) (j' : Fin 8) (hj : j'.val = j.val) :
    pad S128x8 ![0, 0] ![0, 2] ![0, 0] (concatenate S128x6 1 [⟨S128x1, x 0⟩, ⟨S128x1, x 1⟩, ⟨S128x1, x 2⟩, ⟨S128x1, x 3⟩, ⟨S128x1, x 4⟩, ⟨S128x1, x 5⟩]
        concatenates_S128x1_S128x1_S128x1_S128x1_S128x1_S128x1_S128x6_d1) v pads_S128x6_S128x8_000_020 h_S_ (ix2 f j')
      = x j (ix2 f 0) := by
  refine (pad_apply_of_inside _ _ _ _ v pads_S128x6_S128x8_000_020 h_S_ (ix2 f j') (ix2 f j) (fun a => ?_)).trans ?_
  · match a with
    | ⟨0, _⟩ => show f.val = 0 + f.val * (0 + 1); omega
    | ⟨1, _⟩ => show j'.val = 0 + j.val * (0 + 1); omega
  · exact concatenate_ofFn_unit_apply (t := S128x6) (s₁ := S128x1) 1 x
      concatenates_S128x1_S128x1_S128x1_S128x1_S128x1_S128x1_S128x6_d1 rfl rfl (ix2 f j) j rfl (ix2 f 0)
      (fun a h => match a, h with | ⟨0, _⟩, _ => rfl | ⟨1, _⟩, h => absurd rfl h)

theorem spread_apply (x : S128.Idx → EReal) (f : Fin 128) : broadcastInDim S128x1 ![0] bcast_S128_S128x1_0 x (ix2 f 0) = x (ix1 f) := by
  refine broadcastInDim_apply _ _ _ _ _ fun a => ?_
  match a with
  | ⟨0, _⟩ => rfl

theorem column_apply (x : S128x1.Idx → EReal) (f : Fin 128) :
    broadcastInDim S128x1 ![0] bcast_S128_S128x1_0 (shapeCast S128 x shapeCasts_S128x1_S128) (ix2 f 0) = x (ix2 f 0) := by
  rw [spread_apply]
  refine shapeCast_apply x _ (ix1 f) (ix2 f 0) ?_
  rfl

/-- The six columns, by number. -/
def pieces (bc lb ga be : S128.Idx → EReal) (q k : S128x1.Idx → EReal) : Fin 6 → S128x1.Idx → EReal :=
  ![broadcastInDim S128x1 ![0] bcast_S128_S128x1_0 bc, broadcastInDim S128x1 ![0] bcast_S128_S128x1_0 lb,
    broadcastInDim S128x1 ![0] bcast_S128_S128x1_0 ga, broadcastInDim S128x1 ![0] bcast_S128_S128x1_0 be,
    broadcastInDim S128x1 ![0] bcast_S128_S128x1_0 (shapeCast S128 q shapeCasts_S128x1_S128),
    broadcastInDim S128x1 ![0] bcast_S128_S128x1_0 (shapeCast S128 k shapeCasts_S128x1_S128)]

section
variable (bc lb ga be : S128.Idx → EReal) (q k : S128x1.Idx → EReal) (f : Fin 128)

theorem cols_0 : cols bc lb ga be q k (ix2 f 0) = bc (ix1 f) :=
  (side_by_side (pieces bc lb ga be q k) _ f 0 0 rfl).trans (spread_apply bc f)
theorem cols_1 : cols bc lb ga be q k (ix2 f 1) = lb (ix1 f) :=
  (side_by_side (pieces bc lb ga be q k) _ f 1 1 rfl).trans (spread_apply lb f)
theorem cols_2 : cols bc lb ga be q k (ix2 f 2) = ga (ix1 f) :=
  (side_by_side (pieces bc lb ga be q k) _ f 2 2 rfl).trans (spread_apply ga f)
theorem cols_3 : cols bc lb ga be q k (ix2 f 3) = be (ix1 f) :=
  (side_by_side (pieces bc lb ga be q k) _ f 3 3 rfl).trans (spread_apply be f)
theorem cols_4 : cols bc lb ga be q k (ix2 f 4) = q (ix2 f 0) :=
  (side_by_side (pieces bc lb ga be q k) _ f 4 4 rfl).trans (column_apply q f)
theorem cols_5 : cols bc lb ga be q k (ix2 f 5) = k (ix2 f 0) :=
  (side_by_side (pieces bc lb ga be q k) _ f 5 5 rfl).trans (column_apply k f)

end

/-- One column cut out of the packed columns. -/
theorem cut (v : Vec Ideal S128x8 .f32) (j : ℕ) (j' : Fin 8) (hj : j'.val = j) (h : Shape.Slices S128x8 ![0, j] S128x1) (f : Fin 128) :
    extractStridedSlice S128x1 ![0, j] (shapeCast S128x8 (View.ld v r0_4) shapeCasts_S128x8_S128x8) h (ix2 f 0) = v (ix2 f j') := by
  refine (extractStridedSlice_apply _ _ h _ (ix2 f j') (fun a => ?_)).trans ?_
  · match a with
    | ⟨0, _⟩ => show f.val = 0 + f.val; omega
    | ⟨1, _⟩ => show j'.val = j + 0; omega
  · refine (congrFun (shapeCast_self (View.ld v r0_4) shapeCasts_S128x8_S128x8) (ix2 f j')).trans ?_
    exact View.ld_unit_apply_of v _ _ _ _ _ (fun a => match a with | ⟨0, _⟩ => (Nat.zero_add _).symm | ⟨1, _⟩ => (Nat.zero_add _).symm)

theorem top_0 (X : Vec Ideal S256x128 .f32) (f o : Fin 128) : View.ld X r0_5 (ix2 f o) = X (ix2 ⟨f.val, by omega⟩ o) :=
  View.ld_unit_apply_of _ _ _ _ _ _ (fun a => match a with | ⟨0, _⟩ => (Nat.zero_add _).symm | ⟨1, _⟩ => (Nat.zero_add _).symm)

theorem top_1 (X : Vec Ideal S256x128 .f32) (f o : Fin 128) : View.ld X r0_6 (ix2 f o) = X (ix2 ⟨128 + f.val, by omega⟩ o) :=
  View.ld_unit_apply_of _ _ _ _ _ _ (fun a => match a with | ⟨0, _⟩ => rfl | ⟨1, _⟩ => (Nat.zero_add _).symm)

theorem graph_rows (X : Vec Ideal S512x192 .f32) (b : Fin 4) (n : ℕ) (hn : n = b.val * 128) (inb) (f : Fin 128) (s : Fin 192) :
    View.ld X (Rect.unit (s := S512x192) ![n, 0] S128x192.size inb) (ix2 f s) = X (ix2 (Ref.row b f) s) :=
  View.ld_unit_apply_of _ _ _ _ _ _
    (fun a => match a with | ⟨0, _⟩ => congrArg (· + f.val) hn.symm | ⟨1, _⟩ => (Nat.zero_add _).symm)

theorem rows_0 (W : Vec Ideal S2x128x128 .f32) (f o : Fin 128) :
    shapeCast S128x128 (View.ld (Val := Elt Ideal) (e' := .f32) (shapeCast S256x128 W shapeCasts_S2x128x128_S256x128) r0_5) shapeCasts_S128x128_S128x128 (ix2 f o)
      = W (ix3 0 f o) := by
  refine (congrFun (shapeCast_self (α := EReal) _ _) _).trans ?_
  refine (top_0 _ f o).trans ?_
  refine shapeCast_apply W _ _ (ix3 0 f o) ?_
  rewrite [Shape.rowMajor_val_three, Shape.rowMajor_val_two]
  show (0 * 128 + f.val) * 128 + o.val = f.val * 128 + o.val
  omega

theorem rows_1 (W : Vec Ideal S2x128x128 .f32) (f o : Fin 128) :
    shapeCast S128x128 (View.ld (Val := Elt Ideal) (e' := .f32) (shapeCast S256x128 W shapeCasts_S2x128x128_S256x128) r0_6) shapeCasts_S128x128_S128x128 (ix2 f o)
      = W (ix3 1 f o) := by
  refine (congrFun (shapeCast_self (α := EReal) _ _) _).trans ?_
  refine (top_1 _ f o).trans ?_
  refine shapeCast_apply W _ _ (ix3 1 f o) ?_
  rewrite [Shape.rowMajor_val_three, Shape.rowMajor_val_two]
  show (1 * 128 + f.val) * 128 + o.val = (128 + f.val) * 128 + o.val
  omega

theorem half_0 (L : Vec Ideal S128x256 .f32) (o f : Fin 128) : View.ld L r0_7 (ix2 o f) = L (ix2 o ⟨f.val, by omega⟩) :=
  View.ld_unit_apply_of _ _ _ _ _ _ (fun a => match a with | ⟨0, _⟩ => (Nat.zero_add _).symm | ⟨1, _⟩ => (Nat.zero_add _).symm)

theorem half_1 (L : Vec Ideal S128x256 .f32) (o f : Fin 128) : View.ld L r0_8 (ix2 o f) = L (ix2 o ⟨128 + f.val, by omega⟩) :=
  View.ld_unit_apply_of _ _ _ _ _ _ (fun a => match a with | ⟨0, _⟩ => (Nat.zero_add _).symm | ⟨1, _⟩ => rfl)

/-- A layer's parameters, as the kernel reads them, are the reference's. -/
theorem lay_par (W : Vec Ideal S2x128x128 .f32) (q k : Vec Ideal S128x1 .f32) (bc : Vec Ideal S128 .f32) (L : Vec Ideal S128x256 .f32)
    (lb ga be : Vec Ideal S128 .f32) :
    lay (par (shapeCast S256x128 W shapeCasts_S2x128x128_S256x128) L (cols bc lb ga be q k)) = Ref.lay W q k bc L lb ga be := by
  unfold lay Ref.lay par
  congr 1
  · funext f o; exact rows_0 W f o
  · funext f o; exact rows_1 W f o
  · funext o f; exact half_0 L o f
  · funext o f; exact half_1 L o f
  · funext f; exact (cut (cols bc lb ga be q k) 0 0 rfl slices_S128x8_o0_0_S128x1 f).trans (cols_0 bc lb ga be q k f)
  · funext f; exact (cut (cols bc lb ga be q k) 1 1 rfl slices_S128x8_o0_1_S128x1 f).trans (cols_1 bc lb ga be q k f)
  · funext f; exact (cut (cols bc lb ga be q k) 2 2 rfl slices_S128x8_o0_2_S128x1 f).trans (cols_2 bc lb ga be q k f)
  · funext f; exact (cut (cols bc lb ga be q k) 3 3 rfl slices_S128x8_o0_3_S128x1 f).trans (cols_3 bc lb ga be q k f)
  · funext f; exact (cut (cols bc lb ga be q k) 4 4 rfl slices_S128x8_o0_4_S128x1 f).trans (cols_4 bc lb ga be q k f)
  · funext f; exact (cut (cols bc lb ga be q k) 5 5 rfl slices_S128x8_o0_5_S128x1 f).trans (cols_5 bc lb ga be q k f)

/-- A graph's rows of an argument. -/
theorem graph_apply (x : Vec Ideal S4x128x192 .f32) (b : Fin 4) (n : ℕ) (hn : n = b.val * 128) (inb) (f : Fin 128) (s : Fin 192) :
    shapeCast S128x192 (View.ld (Val := Elt Ideal) (e' := .f32) (shapeCast S512x192 x shapeCasts_S4x128x192_S512x192)
      (Rect.unit (s := S512x192) ![n, 0] S128x192.size inb)) shapeCasts_S128x192_S128x192 (ix2 f s) = x (ix3 b f s) := by
  refine (congrFun (shapeCast_self (α := EReal) _ _) _).trans ?_
  refine (graph_rows _ b n hn inb f s).trans ?_
  refine shapeCast_apply x _ _ (ix3 b f s) ?_
  rewrite [Shape.rowMajor_val_three, Shape.rowMajor_val_two]
  rfl

/-- The kernel's tiles are the reference's node sets. -/
theorem tiles (x0 x1 : Vec Ideal S4x128x192 .f32) :
    (fun b t => feat (tile (F := Ideal) (shapeCast S512x192 x0 shapeCasts_S4x128x192_S512x192) (shapeCast S512x192 x1 shapeCasts_S4x128x192_S512x192) b t))
      = Ref.input x0 x1 := by
  funext b t s f
  match b, t with
  | 0, 0 => exact (graph_apply x0 0 0 rfl _ f s).trans (if_pos rfl).symm
  | 1, 0 => exact (graph_apply x0 1 128 rfl _ f s).trans (if_pos rfl).symm
  | 2, 0 => exact (graph_apply x0 2 256 rfl _ f s).trans (if_pos rfl).symm
  | 3, 0 => exact (graph_apply x0 3 384 rfl _ f s).trans (if_pos rfl).symm
  | 0, 1 => exact (graph_apply x1 0 0 rfl _ f s).trans (if_neg (by decide)).symm
  | 1, 1 => exact (graph_apply x1 1 128 rfl _ f s).trans (if_neg (by decide)).symm
  | 2, 1 => exact (graph_apply x1 2 256 rfl _ f s).trans (if_neg (by decide)).symm
  | 3, 1 => exact (graph_apply x1 3 384 rfl _ f s).trans (if_neg (by decide)).symm

end Cert.Proof.Host

end
-- ==== Proof.Named.lean ====
/- Each value the kernel's body names, as the tile functions of the inputs' blocks: the first layer. -/
module

public import proofs.«01_k».proof.Proof.Tiles

@[expose] public section

noncomputable section

namespace Cert.Proof.Tiles

open Idealize.ShloMosaic Idealize.SL.Sem Cert.KernelIdeal Cert.KernelIdeal.Gen

variable {F : FTy → Type} [FloatOps F] [Named F]
variable (x0 : Vec F S512x192 .f32) (x1 : Vec F S512x192 .f32) (x2 : Vec F S256x128 .f32) (x3 : Vec F S128x256 .f32) (x4 : Vec F S128x8 .f32) (x5 : Vec F S256x128 .f32) (x6 : Vec F S128x256 .f32) (x7 : Vec F S128x8 .f32)

theorem named_238 : k0_pay238 x0 x1 x2 x3 x4 x5 x6 x7 =
    constant S128x192 .f32 0x00000000#32 := by
  rw [k0_pay238] <;> rfl

theorem named_239 : k0_pay239 x0 x1 x2 x3 x4 x5 x6 x7 =
    notDiag := by
  rw [k0_pay239] <;> rfl

theorem named_240 : k0_pay240 x0 x1 x2 x3 x4 x5 x6 x7 =
    tile x0 x1 0 0 := by
  rw [k0_pay240] <;> rfl

theorem named_241 : k0_pay241 x0 x1 x2 x3 x4 x5 x6 x7 =
    tile x0 x1 0 1 := by
  rw [k0_pay241] <;> rfl

theorem named_242 : k0_pay242 x0 x1 x2 x3 x4 x5 x6 x7 =
    tile x0 x1 1 0 := by
  rw [k0_pay242] <;> rfl

theorem named_243 : k0_pay243 x0 x1 x2 x3 x4 x5 x6 x7 =
    tile x0 x1 1 1 := by
  rw [k0_pay243] <;> rfl

theorem named_244 : k0_pay244 x0 x1 x2 x3 x4 x5 x6 x7 =
    tile x0 x1 2 0 := by
  rw [k0_pay244] <;> rfl

theorem named_245 : k0_pay245 x0 x1 x2 x3 x4 x5 x6 x7 =
    tile x0 x1 2 1 := by
  rw [k0_pay245] <;> rfl

theorem named_246 : k0_pay246 x0 x1 x2 x3 x4 x5 x6 x7 =
    tile x0 x1 3 0 := by
  rw [k0_pay246] <;> rfl

theorem named_247 : k0_pay247 x0 x1 x2 x3 x4 x5 x6 x7 =
    tile x0 x1 3 1 := by
  rw [k0_pay247] <;> rfl

theorem named_248 : k0_pay248 x0 x1 x2 x3 x4 x5 x6 x7 =
    (par x2 x3 x4).bc := by
  rw [k0_pay248] <;> rfl

theorem named_249 : k0_pay249 x0 x1 x2 x3 x4 x5 x6 x7 =
    (par x2 x3 x4).lb := by
  rw [k0_pay249] <;> rfl

theorem named_250 : k0_pay250 x0 x1 x2 x3 x4 x5 x6 x7 =
    (par x2 x3 x4).ga := by
  rw [k0_pay250] <;> rfl

theorem named_251 : k0_pay251 x0 x1 x2 x3 x4 x5 x6 x7 =
    (par x2 x3 x4).be := by
  rw [k0_pay251] <;> rfl

theorem named_252 : k0_pay252 x0 x1 x2 x3 x4 x5 x6 x7 =
    (par x2 x3 x4).q := by
  rw [k0_pay252] <;> rfl

theorem named_253 : k0_pay253 x0 x1 x2 x3 x4 x5 x6 x7 =
    (par x2 x3 x4).k := by
  rw [k0_pay253] <;> rfl

theorem named_254 : k0_pay254 x0 x1 x2 x3 x4 x5 x6 x7 =
    (par x2 x3 x4).w0 := by
  rw [k0_pay254] <;> rfl

theorem named_255 : k0_pay255 x0 x1 x2 x3 x4 x5 x6 x7 =
    (par x2 x3 x4).w1 := by
  rw [k0_pay255] <;> rfl

theorem named_256 : k0_pay256 x0 x1 x2 x3 x4 x5 x6 x7 =
    xw (par x2 x3 x4).w0 (tile x0 x1 0 0) := by
  rw [k0_pay256, named_240, named_254, named_238] <;> rfl

theorem named_257 : k0_pay257 x0 x1 x2 x3 x4 x5 x6 x7 =
    xw (par x2 x3 x4).w0 (tile x0 x1 1 0) := by
  rw [k0_pay257, named_242, named_254] <;> rfl

theorem named_258 : k0_pay258 x0 x1 x2 x3 x4 x5 x6 x7 =
    xw (par x2 x3 x4).w0 (tile x0 x1 1 1) := by
  rw [k0_pay258, named_243, named_254] <;> rfl

theorem named_259 : k0_pay259 x0 x1 x2 x3 x4 x5 x6 x7 =
    xw (par x2 x3 x4).w0 (tile x0 x1 2 0) := by
  rw [k0_pay259, named_244, named_254] <;> rfl

theorem named_260 : k0_pay260 x0 x1 x2 x3 x4 x5 x6 x7 =
    xw (par x2 x3 x4).w0 (tile x0 x1 2 1) := by
  rw [k0_pay260, named_245, named_254] <;> rfl

theorem named_261 : k0_pay261 x0 x1 x2 x3 x4 x5 x6 x7 =
    xw (par x2 x3 x4).w0 (tile x0 x1 3 0) := by
  rw [k0_pay261, named_246, named_254] <;> rfl

theorem named_262 : k0_pay262 x0 x1 x2 x3 x4 x5 x6 x7 =
    xw (par x2 x3 x4).w0 (tile x0 x1 3 1) := by
  rw [k0_pay262, named_247, named_254] <;> rfl

theorem named_263 : k0_pay263 x0 x1 x2 x3 x4 x5 x6 x7 =
    xw (par x2 x3 x4).w1 (tile x0 x1 0 1) := by
  rw [k0_pay263, named_241, named_255] <;> rfl

theorem named_264 : k0_pay264 x0 x1 x2 x3 x4 x5 x6 x7 =
    xw (par x2 x3 x4).w1 (tile x0 x1 1 0) := by
  rw [k0_pay264, named_242, named_255] <;> rfl

theorem named_265 : k0_pay265 x0 x1 x2 x3 x4 x5 x6 x7 =
    xw (par x2 x3 x4).w1 (tile x0 x1 1 1) := by
  rw [k0_pay265, named_243, named_255] <;> rfl

theorem named_266 : k0_pay266 x0 x1 x2 x3 x4 x5 x6 x7 =
    xw (par x2 x3 x4).w1 (tile x0 x1 2 0) := by
  rw [k0_pay266, named_244, named_255] <;> rfl

theorem named_267 : k0_pay267 x0 x1 x2 x3 x4 x5 x6 x7 =
    xw (par x2 x3 x4).w1 (tile x0 x1 2 1) := by
  rw [k0_pay267, named_245, named_255] <;> rfl

theorem named_268 : k0_pay268 x0 x1 x2 x3 x4 x5 x6 x7 =
    xw (par x2 x3 x4).w1 (tile x0 x1 3 0) := by
  rw [k0_pay268, named_246, named_255] <;> rfl

theorem named_269 : k0_pay269 x0 x1 x2 x3 x4 x5 x6 x7 =
    xw (par x2 x3 x4).w1 (tile x0 x1 3 1) := by
  rw [k0_pay269, named_247, named_255] <;> rfl

theorem named_270 : k0_pay270 x0 x1 x2 x3 x4 x5 x6 x7 =
    logit (par x2 x3 x4).w0 (par x2 x3 x4).q (par x2 x3 x4).k (tile x0 x1 0 0) (tile x0 x1 0 0) := by
  rw [k0_pay270, named_240, named_252, named_253, named_254, named_238] <;> rfl

theorem named_271 : k0_pay271 x0 x1 x2 x3 x4 x5 x6 x7 =
    presum (par x2 x3 x4).w1 (par x2 x3 x4).q (par x2 x3 x4).k (tile x0 x1 0 0) (tile x0 x1 0 1) := by
  rw [k0_pay271, named_240, named_241, named_252, named_253, named_255] <;> rfl

theorem named_272 : k0_pay272 x0 x1 x2 x3 x4 x5 x6 x7 =
    m2f (par x2 x3 x4) (tile x0 x1) 0 0 := by
  rw [k0_pay272, named_239, named_240, named_248, named_249, named_256, named_263, named_270, named_271] <;> rfl

theorem named_273 : k0_pay273 x0 x1 x2 x3 x4 x5 x6 x7 =
    addf (aggr (par x2 x3 x4) (tile x0 x1 0 1) (tile x0 x1 0 0)) (bcol (par x2 x3 x4).bc) := by
  rw [k0_pay273, named_239, named_248, named_241, named_254, named_240, named_255, named_252, named_253] <;> rfl

theorem named_274 : k0_pay274 x0 x1 x2 x3 x4 x5 x6 x7 =
    m2f (par x2 x3 x4) (tile x0 x1) 0 1 := by
  rw [k0_pay274, named_241, named_249, named_273] <;> rfl

theorem named_275 : k0_pay275 x0 x1 x2 x3 x4 x5 x6 x7 =
    qi (xw (par x2 x3 x4).w1 (tile x0 x1 1 1)) (par x2 x3 x4).q := by
  rw [k0_pay275, named_252, named_265] <;> rfl

theorem named_276 : k0_pay276 x0 x1 x2 x3 x4 x5 x6 x7 =
    kj (par x2 x3 x4).k (xw (par x2 x3 x4).w1 (tile x0 x1 1 0)) := by
  rw [k0_pay276, named_253, named_264] <;> rfl

theorem named_277 : k0_pay277 x0 x1 x2 x3 x4 x5 x6 x7 =
    logit (par x2 x3 x4).w0 (par x2 x3 x4).q (par x2 x3 x4).k (tile x0 x1 1 0) (tile x0 x1 1 0) := by
  rw [k0_pay277, named_252, named_253, named_257] <;> rfl

theorem named_278 : k0_pay278 x0 x1 x2 x3 x4 x5 x6 x7 =
    logit (par x2 x3 x4).w1 (par x2 x3 x4).q (par x2 x3 x4).k (tile x0 x1 1 0) (tile x0 x1 1 1) := by
  rw [k0_pay278, named_252, named_253, named_264, named_265] <;> rfl

theorem named_279 : k0_pay279 x0 x1 x2 x3 x4 x5 x6 x7 =
    amax (logit (par x2 x3 x4).w0 (par x2 x3 x4).q (par x2 x3 x4).k (tile x0 x1 1 0) (tile x0 x1 1 0)) (logit (par x2 x3 x4).w1 (par x2 x3 x4).q (par x2 x3 x4).k (tile x0 x1 1 0) (tile x0 x1 1 1)) := by
  rw [k0_pay279, named_239, named_252, named_253, named_257, named_264, named_265] <;> rfl

theorem named_280 : k0_pay280 x0 x1 x2 x3 x4 x5 x6 x7 =
    m2f (par x2 x3 x4) (tile x0 x1) 1 0 := by
  rw [k0_pay280, named_239, named_242, named_248, named_249, named_257, named_265, named_277, named_278, named_279] <;> rfl

theorem named_281 : k0_pay281 x0 x1 x2 x3 x4 x5 x6 x7 =
    logit (par x2 x3 x4).w0 (par x2 x3 x4).q (par x2 x3 x4).k (tile x0 x1 1 1) (tile x0 x1 1 1) := by
  rw [k0_pay281, named_252, named_258, named_253] <;> rfl

theorem named_282 : k0_pay282 x0 x1 x2 x3 x4 x5 x6 x7 =
    presum (par x2 x3 x4).w1 (par x2 x3 x4).q (par x2 x3 x4).k (tile x0 x1 1 1) (tile x0 x1 1 0) := by
  rw [k0_pay282, named_275, named_276] <;> rfl

theorem named_283 : k0_pay283 x0 x1 x2 x3 x4 x5 x6 x7 =
    cmpf .oge (presum (par x2 x3 x4).w1 (par x2 x3 x4).q (par x2 x3 x4).k (tile x0 x1 1 1) (tile x0 x1 1 0)) (broadcast S192x192 (Scalar.ofBits .f32 0x00000000#32)) := by
  rw [k0_pay283, named_275, named_276] <;> rfl

theorem named_284 : k0_pay284 x0 x1 x2 x3 x4 x5 x6 x7 =
    m2f (par x2 x3 x4) (tile x0 x1) 1 1 := by
  rw [k0_pay284, named_239, named_243, named_248, named_249, named_258, named_264, named_281, named_282, named_283] <;> rfl

theorem named_285 : k0_pay285 x0 x1 x2 x3 x4 x5 x6 x7 =
    qi (xw (par x2 x3 x4).w0 (tile x0 x1 2 0)) (par x2 x3 x4).q := by
  rw [k0_pay285, named_252, named_259] <;> rfl

theorem named_286 : k0_pay286 x0 x1 x2 x3 x4 x5 x6 x7 =
    qi (xw (par x2 x3 x4).w0 (tile x0 x1 2 1)) (par x2 x3 x4).q := by
  rw [k0_pay286, named_252, named_260] <;> rfl

theorem named_287 : k0_pay287 x0 x1 x2 x3 x4 x5 x6 x7 =
    qi (xw (par x2 x3 x4).w1 (tile x0 x1 2 1)) (par x2 x3 x4).q := by
  rw [k0_pay287, named_252, named_267] <;> rfl

theorem named_288 : k0_pay288 x0 x1 x2 x3 x4 x5 x6 x7 =
    kj (par x2 x3 x4).k (xw (par x2 x3 x4).w0 (tile x0 x1 2 1)) := by
  rw [k0_pay288, named_253, named_260] <;> rfl

theorem named_289 : k0_pay289 x0 x1 x2 x3 x4 x5 x6 x7 =
    kj (par x2 x3 x4).k (xw (par x2 x3 x4).w1 (tile x0 x1 2 0)) := by
  rw [k0_pay289, named_253, named_266] <;> rfl

theorem named_290 : k0_pay290 x0 x1 x2 x3 x4 x5 x6 x7 =
    exS (logit (par x2 x3 x4).w0 (par x2 x3 x4).q (par x2 x3 x4).k (tile x0 x1 2 0) (tile x0 x1 2 0)) (logit (par x2 x3 x4).w1 (par x2 x3 x4).q (par x2 x3 x4).k (tile x0 x1 2 0) (tile x0 x1 2 1)) := by
  rw [k0_pay290, named_239, named_252, named_253, named_259, named_266, named_267, named_285] <;> rfl

theorem named_291 : k0_pay291 x0 x1 x2 x3 x4 x5 x6 x7 =
    exC (logit (par x2 x3 x4).w0 (par x2 x3 x4).q (par x2 x3 x4).k (tile x0 x1 2 0) (tile x0 x1 2 0)) (logit (par x2 x3 x4).w1 (par x2 x3 x4).q (par x2 x3 x4).k (tile x0 x1 2 0) (tile x0 x1 2 1)) := by
  rw [k0_pay291, named_239, named_252, named_253, named_259, named_266, named_267, named_285] <;> rfl

theorem named_292 : k0_pay292 x0 x1 x2 x3 x4 x5 x6 x7 =
    addf (shapeCast S192x1 (multiReduction .add [1] S192 (exS (logit (par x2 x3 x4).w0 (par x2 x3 x4).q (par x2 x3 x4).k (tile x0 x1 2 0) (tile x0 x1 2 0)) (logit (par x2 x3 x4).w1 (par x2 x3 x4).q (par x2 x3 x4).k (tile x0 x1 2 0) (tile x0 x1 2 1))) 0x00000000#32 reduces_S192x192_S192 (.inl rfl) rfl) shapeCasts_S192_S192x1) (shapeCast S192x1 (multiReduction .add [1] S192 (exC (logit (par x2 x3 x4).w0 (par x2 x3 x4).q (par x2 x3 x4).k (tile x0 x1 2 0) (tile x0 x1 2 0)) (logit (par x2 x3 x4).w1 (par x2 x3 x4).q (par x2 x3 x4).k (tile x0 x1 2 0) (tile x0 x1 2 1))) 0x00000000#32 reduces_S192x192_S192 (.inl rfl) rfl) shapeCasts_S192_S192x1) := by
  rw [k0_pay292, named_239, named_252, named_253, named_259, named_266, named_267, named_285] <;> rfl

theorem named_293 : k0_pay293 x0 x1 x2 x3 x4 x5 x6 x7 =
    logit (par x2 x3 x4).w1 (par x2 x3 x4).q (par x2 x3 x4).k (tile x0 x1 2 1) (tile x0 x1 2 0) := by
  rw [k0_pay293, named_287, named_289] <;> rfl

theorem named_294 : k0_pay294 x0 x1 x2 x3 x4 x5 x6 x7 =
    amax (logit (par x2 x3 x4).w0 (par x2 x3 x4).q (par x2 x3 x4).k (tile x0 x1 2 1) (tile x0 x1 2 1)) (logit (par x2 x3 x4).w1 (par x2 x3 x4).q (par x2 x3 x4).k (tile x0 x1 2 1) (tile x0 x1 2 0)) := by
  rw [k0_pay294, named_239, named_286, named_287, named_288, named_289] <;> rfl

theorem named_295 : k0_pay295 x0 x1 x2 x3 x4 x5 x6 x7 =
    subf (logit (par x2 x3 x4).w0 (par x2 x3 x4).q (par x2 x3 x4).k (tile x0 x1 2 1) (tile x0 x1 2 1)) (broadcastTo S192x192 (amax (logit (par x2 x3 x4).w0 (par x2 x3 x4).q (par x2 x3 x4).k (tile x0 x1 2 1) (tile x0 x1 2 1)) (logit (par x2 x3 x4).w1 (par x2 x3 x4).q (par x2 x3 x4).k (tile x0 x1 2 1) (tile x0 x1 2 0))) broadcasts_S192x1_S192x192) := by
  rw [k0_pay295, named_239, named_286, named_287, named_288, named_289] <;> rfl

theorem named_296 : k0_pay296 x0 x1 x2 x3 x4 x5 x6 x7 =
    qi (xw (par x2 x3 x4).w0 (tile x0 x1 3 1)) (par x2 x3 x4).q := by
  rw [k0_pay296, named_252, named_262] <;> rfl

theorem named_297 : k0_pay297 x0 x1 x2 x3 x4 x5 x6 x7 =
    qi (xw (par x2 x3 x4).w1 (tile x0 x1 3 1)) (par x2 x3 x4).q := by
  rw [k0_pay297, named_252, named_269] <;> rfl

theorem named_298 : k0_pay298 x0 x1 x2 x3 x4 x5 x6 x7 =
    kj (par x2 x3 x4).k (xw (par x2 x3 x4).w0 (tile x0 x1 3 1)) := by
  rw [k0_pay298, named_253, named_262] <;> rfl

theorem named_299 : k0_pay299 x0 x1 x2 x3 x4 x5 x6 x7 =
    kj (par x2 x3 x4).k (xw (par x2 x3 x4).w1 (tile x0 x1 3 0)) := by
  rw [k0_pay299, named_253, named_268] <;> rfl

theorem named_300 : k0_pay300 x0 x1 x2 x3 x4 x5 x6 x7 =
    addf (aggr (par x2 x3 x4) (tile x0 x1 3 0) (tile x0 x1 3 1)) (bcol (par x2 x3 x4).bc) := by
  rw [k0_pay300, named_239, named_248, named_261, named_269, named_252, named_268, named_253] <;> rfl

theorem named_301 : k0_pay301 x0 x1 x2 x3 x4 x5 x6 x7 =
    broadcast S128x192 (Scalar.ofBits .f32 0x00000000#32) := by
  rw [k0_pay301] <;> rfl

theorem named_302 : k0_pay302 x0 x1 x2 x3 x4 x5 x6 x7 =
    addf (addf (addf (addf (addf (addf (rowSum (m2f (par x2 x3 x4) (tile x0 x1) 0 0)) (rowSum (m2f (par x2 x3 x4) (tile x0 x1) 0 1))) (rowSum (m2f (par x2 x3 x4) (tile x0 x1) 1 0))) (rowSum (m2f (par x2 x3 x4) (tile x0 x1) 1 1))) (rowSum (m2f (par x2 x3 x4) (tile x0 x1) 2 0))) (rowSum (m2f (par x2 x3 x4) (tile x0 x1) 2 1))) (rowSum (m2f (par x2 x3 x4) (tile x0 x1) 3 0)) := by
  rw [k0_pay302, named_246, named_249, named_239, named_245, named_248, named_260, named_266, named_244, named_259, named_267, named_243, named_258, named_264, named_242, named_257, named_265, named_241, named_240, named_256, named_263, named_270, named_271, named_273, named_277, named_278, named_279, named_281, named_282, named_283, named_290, named_291, named_292, named_293, named_294, named_295, named_300, named_301] <;> rfl

theorem named_303 : k0_pay303 x0 x1 x2 x3 x4 x5 x6 x7 =
    exS (logit (par x2 x3 x4).w0 (par x2 x3 x4).q (par x2 x3 x4).k (tile x0 x1 3 1) (tile x0 x1 3 1)) (logit (par x2 x3 x4).w1 (par x2 x3 x4).q (par x2 x3 x4).k (tile x0 x1 3 1) (tile x0 x1 3 0)) := by
  rw [k0_pay303, named_239, named_296, named_297, named_298, named_299] <;> rfl

theorem named_304 : k0_pay304 x0 x1 x2 x3 x4 x5 x6 x7 =
    exC (logit (par x2 x3 x4).w0 (par x2 x3 x4).q (par x2 x3 x4).k (tile x0 x1 3 1) (tile x0 x1 3 1)) (logit (par x2 x3 x4).w1 (par x2 x3 x4).q (par x2 x3 x4).k (tile x0 x1 3 1) (tile x0 x1 3 0)) := by
  rw [k0_pay304, named_239, named_296, named_297, named_298, named_299] <;> rfl

theorem named_305 : k0_pay305 x0 x1 x2 x3 x4 x5 x6 x7 =
    addf (shapeCast S192x1 (multiReduction .add [1] S192 (exS (logit (par x2 x3 x4).w0 (par x2 x3 x4).q (par x2 x3 x4).k (tile x0 x1 3 1) (tile x0 x1 3 1)) (logit (par x2 x3 x4).w1 (par x2 x3 x4).q (par x2 x3 x4).k (tile x0 x1 3 1) (tile x0 x1 3 0))) 0x00000000#32 reduces_S192x192_S192 (.inl rfl) rfl) shapeCasts_S192_S192x1) (shapeCast S192x1 (multiReduction .add [1] S192 (exC (logit (par x2 x3 x4).w0 (par x2 x3 x4).q (par x2 x3 x4).k (tile x0 x1 3 1) (tile x0 x1 3 1)) (logit (par x2 x3 x4).w1 (par x2 x3 x4).q (par x2 x3 x4).k (tile x0 x1 3 1) (tile x0 x1 3 0))) 0x00000000#32 reduces_S192x192_S192 (.inl rfl) rfl) shapeCasts_S192_S192x1) := by
  rw [k0_pay305, named_239, named_296, named_297, named_298, named_299] <;> rfl

theorem named_306 : k0_pay306 x0 x1 x2 x3 x4 x5 x6 x7 =
    broadcast S192x1 (Scalar.ofBits .f32 0x24E69595#32) := by
  rw [k0_pay306] <;> rfl

theorem named_307 : k0_pay307 x0 x1 x2 x3 x4 x5 x6 x7 =
    cent (par x2 x3 x4) (tile x0 x1) 2 0 := by
  rw [k0_pay307, named_247, named_248, named_249, named_262, named_268, named_244, named_259, named_267, named_290, named_291, named_292, named_302, named_303, named_304, named_305, named_306] <;> rfl

theorem named_308 : k0_pay308 x0 x1 x2 x3 x4 x5 x6 x7 =
    cent (par x2 x3 x4) (tile x0 x1) 2 1 := by
  rw [k0_pay308, named_247, named_248, named_249, named_262, named_268, named_239, named_245, named_260, named_266, named_293, named_294, named_295, named_302, named_303, named_304, named_305, named_306] <;> rfl

theorem named_309 : k0_pay309 x0 x1 x2 x3 x4 x5 x6 x7 =
    cent (par x2 x3 x4) (tile x0 x1) 3 0 := by
  rw [k0_pay309, named_247, named_248, named_249, named_262, named_268, named_246, named_300, named_301, named_302, named_303, named_304, named_305, named_306] <;> rfl

theorem named_310 : k0_pay310 x0 x1 x2 x3 x4 x5 x6 x7 =
    cent (par x2 x3 x4) (tile x0 x1) 3 1 := by
  rw [k0_pay310, named_247, named_248, named_249, named_262, named_268, named_302, named_303, named_304, named_305, named_306] <;> rfl

theorem named_311 : k0_pay311 x0 x1 x2 x3 x4 x5 x6 x7 =
    addf (addf (rowSum (mulf (cent (par x2 x3 x4) (tile x0 x1) 0 0) (cent (par x2 x3 x4) (tile x0 x1) 0 0))) (rowSum (mulf (cent (par x2 x3 x4) (tile x0 x1) 0 1) (cent (par x2 x3 x4) (tile x0 x1) 0 1)))) (rowSum (mulf (cent (par x2 x3 x4) (tile x0 x1) 1 0) (cent (par x2 x3 x4) (tile x0 x1) 1 0))) := by
  rw [k0_pay311, named_247, named_248, named_249, named_262, named_268, named_272, named_274, named_280, named_302, named_303, named_304, named_305, named_306] <;> rfl

theorem named_312 : k0_pay312 x0 x1 x2 x3 x4 x5 x6 x7 =
    mulf (cent (par x2 x3 x4) (tile x0 x1) 1 1) (cent (par x2 x3 x4) (tile x0 x1) 1 1) := by
  rw [k0_pay312, named_247, named_248, named_249, named_262, named_268, named_284, named_302, named_303, named_304, named_305, named_306] <;> rfl

theorem named_313 : k0_pay313 x0 x1 x2 x3 x4 x5 x6 x7 =
    scale (par x2 x3 x4) (tile x0 x1) := by
  rw [k0_pay313, named_250, named_307, named_308, named_309, named_310, named_311, named_312] <;> rfl

theorem named_314 : k0_pay314 x0 x1 x2 x3 x4 x5 x6 x7 =
    mid x0 x1 x2 x3 x4 0 0 := by
  rw [k0_pay314, named_240, named_250, named_251, named_247, named_248, named_249, named_262, named_268, named_272, named_302, named_303, named_304, named_305, named_306, named_307, named_308, named_309, named_310, named_311, named_312] <;> rfl

theorem named_315 : k0_pay315 x0 x1 x2 x3 x4 x5 x6 x7 =
    mid x0 x1 x2 x3 x4 0 1 := by
  rw [k0_pay315, named_241, named_250, named_251, named_247, named_248, named_249, named_262, named_268, named_274, named_302, named_303, named_304, named_305, named_306, named_307, named_308, named_309, named_310, named_311, named_312] <;> rfl

theorem named_316 : k0_pay316 x0 x1 x2 x3 x4 x5 x6 x7 =
    mid x0 x1 x2 x3 x4 1 0 := by
  rw [k0_pay316, named_242, named_250, named_251, named_247, named_248, named_249, named_262, named_268, named_280, named_302, named_303, named_304, named_305, named_306, named_307, named_308, named_309, named_310, named_311, named_312] <;> rfl

theorem named_317 : k0_pay317 x0 x1 x2 x3 x4 x5 x6 x7 =
    mid x0 x1 x2 x3 x4 1 1 := by
  rw [k0_pay317, named_243, named_250, named_251, named_247, named_248, named_249, named_262, named_268, named_284, named_302, named_303, named_304, named_305, named_306, named_307, named_308, named_309, named_310, named_311, named_312] <;> rfl

theorem named_318 : k0_pay318 x0 x1 x2 x3 x4 x5 x6 x7 =
    mid x0 x1 x2 x3 x4 2 0 := by
  rw [k0_pay318, named_244, named_250, named_251, named_307, named_308, named_309, named_310, named_311, named_312] <;> rfl

theorem named_319 : k0_pay319 x0 x1 x2 x3 x4 x5 x6 x7 =
    addf (tile x0 x1 2 1) (mulf (cent (par x2 x3 x4) (tile x0 x1) 2 1) (bcol (scale (par x2 x3 x4) (tile x0 x1)))) := by
  rw [k0_pay319, named_245, named_250, named_307, named_308, named_309, named_310, named_311, named_312] <;> rfl

theorem named_320 : k0_pay320 x0 x1 x2 x3 x4 x5 x6 x7 =
    mid x0 x1 x2 x3 x4 2 1 := by
  rw [k0_pay320, named_251, named_319] <;> rfl

theorem named_321 : k0_pay321 x0 x1 x2 x3 x4 x5 x6 x7 =
    mid x0 x1 x2 x3 x4 3 0 := by
  rw [k0_pay321, named_246, named_251, named_309, named_313] <;> rfl

theorem named_322 : k0_pay322 x0 x1 x2 x3 x4 x5 x6 x7 =
    mid x0 x1 x2 x3 x4 3 1 := by
  rw [k0_pay322, named_247, named_251, named_310, named_313] <;> rfl

end Cert.Proof.Tiles

end
-- ==== Proof.Outs.lean ====
/- Each value the kernel's body names, as the tile functions of the inputs' blocks: the second layer. -/
module

public import proofs.«01_k».proof.Proof.Named

@[expose] public section

noncomputable section

namespace Cert.Proof.Tiles

open Idealize.ShloMosaic Idealize.SL.Sem Cert.KernelIdeal Cert.KernelIdeal.Gen

variable {F : FTy → Type} [FloatOps F] [Named F]
variable (x0 : Vec F S512x192 .f32) (x1 : Vec F S512x192 .f32) (x2 : Vec F S256x128 .f32) (x3 : Vec F S128x256 .f32) (x4 : Vec F S128x8 .f32) (x5 : Vec F S256x128 .f32) (x6 : Vec F S128x256 .f32) (x7 : Vec F S128x8 .f32)

theorem named_323 : k0_pay323 x0 x1 x2 x3 x4 x5 x6 x7 =
    (par x5 x6 x7).bc := by
  rw [k0_pay323] <;> rfl

theorem named_324 : k0_pay324 x0 x1 x2 x3 x4 x5 x6 x7 =
    (par x5 x6 x7).lb := by
  rw [k0_pay324] <;> rfl

theorem named_325 : k0_pay325 x0 x1 x2 x3 x4 x5 x6 x7 =
    (par x5 x6 x7).ga := by
  rw [k0_pay325] <;> rfl

theorem named_326 : k0_pay326 x0 x1 x2 x3 x4 x5 x6 x7 =
    (par x5 x6 x7).be := by
  rw [k0_pay326] <;> rfl

theorem named_327 : k0_pay327 x0 x1 x2 x3 x4 x5 x6 x7 =
    (par x5 x6 x7).q := by
  rw [k0_pay327] <;> rfl

theorem named_328 : k0_pay328 x0 x1 x2 x3 x4 x5 x6 x7 =
    (par x5 x6 x7).k := by
  rw [k0_pay328] <;> rfl

theorem named_329 : k0_pay329 x0 x1 x2 x3 x4 x5 x6 x7 =
    (par x5 x6 x7).w1 := by
  rw [k0_pay329] <;> rfl

theorem named_330 : k0_pay330 x0 x1 x2 x3 x4 x5 x6 x7 =
    xw (par x5 x6 x7).w0 (mid x0 x1 x2 x3 x4 0 0) := by
  rw [k0_pay330, named_314] <;> rfl

theorem named_331 : k0_pay331 x0 x1 x2 x3 x4 x5 x6 x7 =
    xw (par x5 x6 x7).w0 (mid x0 x1 x2 x3 x4 0 1) := by
  rw [k0_pay331, named_315] <;> rfl

theorem named_332 : k0_pay332 x0 x1 x2 x3 x4 x5 x6 x7 =
    xw (par x5 x6 x7).w0 (mid x0 x1 x2 x3 x4 1 0) := by
  rw [k0_pay332, named_316] <;> rfl

theorem named_333 : k0_pay333 x0 x1 x2 x3 x4 x5 x6 x7 =
    xw (par x5 x6 x7).w0 (mid x0 x1 x2 x3 x4 1 1) := by
  rw [k0_pay333, named_317] <;> rfl

theorem named_334 : k0_pay334 x0 x1 x2 x3 x4 x5 x6 x7 =
    xw (par x5 x6 x7).w0 (mid x0 x1 x2 x3 x4 2 0) := by
  rw [k0_pay334, named_318] <;> rfl

theorem named_335 : k0_pay335 x0 x1 x2 x3 x4 x5 x6 x7 =
    xw (par x5 x6 x7).w0 (mid x0 x1 x2 x3 x4 2 1) := by
  rw [k0_pay335, named_251, named_319] <;> rfl

theorem named_336 : k0_pay336 x0 x1 x2 x3 x4 x5 x6 x7 =
    xw (par x5 x6 x7).w0 (mid x0 x1 x2 x3 x4 3 0) := by
  rw [k0_pay336, named_246, named_251, named_309, named_313] <;> rfl

theorem named_337 : k0_pay337 x0 x1 x2 x3 x4 x5 x6 x7 =
    xw (par x5 x6 x7).w0 (mid x0 x1 x2 x3 x4 3 1) := by
  rw [k0_pay337, named_247, named_251, named_310, named_313] <;> rfl

theorem named_338 : k0_pay338 x0 x1 x2 x3 x4 x5 x6 x7 =
    xw (par x5 x6 x7).w1 (mid x0 x1 x2 x3 x4 0 0) := by
  rw [k0_pay338, named_314] <;> rfl

theorem named_339 : k0_pay339 x0 x1 x2 x3 x4 x5 x6 x7 =
    xw (par x5 x6 x7).w1 (mid x0 x1 x2 x3 x4 0 1) := by
  rw [k0_pay339, named_315] <;> rfl

theorem named_340 : k0_pay340 x0 x1 x2 x3 x4 x5 x6 x7 =
    xw (par x5 x6 x7).w1 (mid x0 x1 x2 x3 x4 1 0) := by
  rw [k0_pay340, named_316] <;> rfl

theorem named_341 : k0_pay341 x0 x1 x2 x3 x4 x5 x6 x7 =
    xw (par x5 x6 x7).w1 (mid x0 x1 x2 x3 x4 1 1) := by
  rw [k0_pay341, named_317] <;> rfl

theorem named_342 : k0_pay342 x0 x1 x2 x3 x4 x5 x6 x7 =
    xw (par x5 x6 x7).w1 (mid x0 x1 x2 x3 x4 2 0) := by
  rw [k0_pay342, named_318, named_329] <;> rfl

theorem named_343 : k0_pay343 x0 x1 x2 x3 x4 x5 x6 x7 =
    xw (par x5 x6 x7).w1 (mid x0 x1 x2 x3 x4 2 1) := by
  rw [k0_pay343, named_320, named_329] <;> rfl

theorem named_344 : k0_pay344 x0 x1 x2 x3 x4 x5 x6 x7 =
    xw (par x5 x6 x7).w1 (mid x0 x1 x2 x3 x4 3 0) := by
  rw [k0_pay344, named_321, named_329] <;> rfl

theorem named_345 : k0_pay345 x0 x1 x2 x3 x4 x5 x6 x7 =
    xw (par x5 x6 x7).w1 (mid x0 x1 x2 x3 x4 3 1) := by
  rw [k0_pay345, named_322, named_329] <;> rfl

theorem named_346 : k0_pay346 x0 x1 x2 x3 x4 x5 x6 x7 =
    qi (xw (par x5 x6 x7).w0 (mid x0 x1 x2 x3 x4 0 1)) (par x5 x6 x7).q := by
  rw [k0_pay346, named_327, named_331] <;> rfl

theorem named_347 : k0_pay347 x0 x1 x2 x3 x4 x5 x6 x7 =
    kj (par x5 x6 x7).k (xw (par x5 x6 x7).w0 (mid x0 x1 x2 x3 x4 0 1)) := by
  rw [k0_pay347, named_328, named_331] <;> rfl

theorem named_348 : k0_pay348 x0 x1 x2 x3 x4 x5 x6 x7 =
    logit (par x5 x6 x7).w1 (par x5 x6 x7).q (par x5 x6 x7).k (mid x0 x1 x2 x3 x4 0 0) (mid x0 x1 x2 x3 x4 0 1) := by
  rw [k0_pay348, named_327, named_328, named_338, named_339] <;> rfl

theorem named_349 : k0_pay349 x0 x1 x2 x3 x4 x5 x6 x7 =
    amax (logit (par x5 x6 x7).w0 (par x5 x6 x7).q (par x5 x6 x7).k (mid x0 x1 x2 x3 x4 0 0) (mid x0 x1 x2 x3 x4 0 0)) (logit (par x5 x6 x7).w1 (par x5 x6 x7).q (par x5 x6 x7).k (mid x0 x1 x2 x3 x4 0 0) (mid x0 x1 x2 x3 x4 0 1)) := by
  rw [k0_pay349, named_239, named_327, named_328, named_330, named_338, named_339] <;> rfl

theorem named_350 : k0_pay350 x0 x1 x2 x3 x4 x5 x6 x7 =
    exS (logit (par x5 x6 x7).w0 (par x5 x6 x7).q (par x5 x6 x7).k (mid x0 x1 x2 x3 x4 0 0) (mid x0 x1 x2 x3 x4 0 0)) (logit (par x5 x6 x7).w1 (par x5 x6 x7).q (par x5 x6 x7).k (mid x0 x1 x2 x3 x4 0 0) (mid x0 x1 x2 x3 x4 0 1)) := by
  rw [k0_pay350, named_239, named_327, named_328, named_330, named_338, named_339] <;> rfl

theorem named_351 : k0_pay351 x0 x1 x2 x3 x4 x5 x6 x7 =
    m2f (par x5 x6 x7) (mid x0 x1 x2 x3 x4) 0 0 := by
  rw [k0_pay351, named_314, named_323, named_324, named_330, named_339, named_348, named_349, named_350] <;> rfl

theorem named_352 : k0_pay352 x0 x1 x2 x3 x4 x5 x6 x7 =
    logit (par x5 x6 x7).w0 (par x5 x6 x7).q (par x5 x6 x7).k (mid x0 x1 x2 x3 x4 0 1) (mid x0 x1 x2 x3 x4 0 1) := by
  rw [k0_pay352, named_346, named_347] <;> rfl

theorem named_353 : k0_pay353 x0 x1 x2 x3 x4 x5 x6 x7 =
    logit (par x5 x6 x7).w1 (par x5 x6 x7).q (par x5 x6 x7).k (mid x0 x1 x2 x3 x4 0 1) (mid x0 x1 x2 x3 x4 0 0) := by
  rw [k0_pay353, named_327, named_339, named_328, named_338] <;> rfl

theorem named_354 : k0_pay354 x0 x1 x2 x3 x4 x5 x6 x7 =
    select notDiag (logit (par x5 x6 x7).w0 (par x5 x6 x7).q (par x5 x6 x7).k (mid x0 x1 x2 x3 x4 0 1) (mid x0 x1 x2 x3 x4 0 1)) (broadcast S192x192 (Named.named κ "mask" 0xF149F2CA#32)) := by
  rw [k0_pay354, named_239, named_346, named_347] <;> rfl

theorem named_355 : k0_pay355 x0 x1 x2 x3 x4 x5 x6 x7 =
    constant S1x192 .f32 0x00000000#32 := by
  rw [k0_pay355] <;> rfl

theorem named_356 : k0_pay356 x0 x1 x2 x3 x4 x5 x6 x7 =
    m2f (par x5 x6 x7) (mid x0 x1 x2 x3 x4) 0 1 := by
  rw [k0_pay356, named_239, named_315, named_323, named_324, named_331, named_338, named_352, named_353, named_354] <;> rfl

theorem named_357 : k0_pay357 x0 x1 x2 x3 x4 x5 x6 x7 =
    qi (xw (par x5 x6 x7).w0 (mid x0 x1 x2 x3 x4 1 0)) (par x5 x6 x7).q := by
  rw [k0_pay357, named_327, named_332] <;> rfl

theorem named_358 : k0_pay358 x0 x1 x2 x3 x4 x5 x6 x7 =
    qi (xw (par x5 x6 x7).w0 (mid x0 x1 x2 x3 x4 1 1)) (par x5 x6 x7).q := by
  rw [k0_pay358, named_327, named_333] <;> rfl

theorem named_359 : k0_pay359 x0 x1 x2 x3 x4 x5 x6 x7 =
    qi (xw (par x5 x6 x7).w1 (mid x0 x1 x2 x3 x4 1 0)) (par x5 x6 x7).q := by
  rw [k0_pay359, named_327, named_340] <;> rfl

theorem named_360 : k0_pay360 x0 x1 x2 x3 x4 x5 x6 x7 =
    qi (xw (par x5 x6 x7).w1 (mid x0 x1 x2 x3 x4 1 1)) (par x5 x6 x7).q := by
  rw [k0_pay360, named_327, named_341] <;> rfl

theorem named_361 : k0_pay361 x0 x1 x2 x3 x4 x5 x6 x7 =
    kj (par x5 x6 x7).k (xw (par x5 x6 x7).w0 (mid x0 x1 x2 x3 x4 1 1)) := by
  rw [k0_pay361, named_328, named_333] <;> rfl

theorem named_362 : k0_pay362 x0 x1 x2 x3 x4 x5 x6 x7 =
    kj (par x5 x6 x7).k (xw (par x5 x6 x7).w1 (mid x0 x1 x2 x3 x4 1 0)) := by
  rw [k0_pay362, named_328, named_340] <;> rfl

theorem named_363 : k0_pay363 x0 x1 x2 x3 x4 x5 x6 x7 =
    prS (logit (par x5 x6 x7).w0 (par x5 x6 x7).q (par x5 x6 x7).k (mid x0 x1 x2 x3 x4 1 0) (mid x0 x1 x2 x3 x4 1 0)) (logit (par x5 x6 x7).w1 (par x5 x6 x7).q (par x5 x6 x7).k (mid x0 x1 x2 x3 x4 1 0) (mid x0 x1 x2 x3 x4 1 1)) := by
  rw [k0_pay363, named_239, named_328, named_332, named_341, named_357, named_359, named_355] <;> rfl

theorem named_364 : k0_pay364 x0 x1 x2 x3 x4 x5 x6 x7 =
    prC (logit (par x5 x6 x7).w0 (par x5 x6 x7).q (par x5 x6 x7).k (mid x0 x1 x2 x3 x4 1 0) (mid x0 x1 x2 x3 x4 1 0)) (logit (par x5 x6 x7).w1 (par x5 x6 x7).q (par x5 x6 x7).k (mid x0 x1 x2 x3 x4 1 0) (mid x0 x1 x2 x3 x4 1 1)) := by
  rw [k0_pay364, named_239, named_328, named_332, named_341, named_357, named_359, named_355] <;> rfl

theorem named_365 : k0_pay365 x0 x1 x2 x3 x4 x5 x6 x7 =
    m2f (par x5 x6 x7) (mid x0 x1 x2 x3 x4) 1 0 := by
  rw [k0_pay365, named_316, named_323, named_324, named_332, named_341, named_363, named_364] <;> rfl

theorem named_366 : k0_pay366 x0 x1 x2 x3 x4 x5 x6 x7 =
    exS (logit (par x5 x6 x7).w0 (par x5 x6 x7).q (par x5 x6 x7).k (mid x0 x1 x2 x3 x4 1 1) (mid x0 x1 x2 x3 x4 1 1)) (logit (par x5 x6 x7).w1 (par x5 x6 x7).q (par x5 x6 x7).k (mid x0 x1 x2 x3 x4 1 1) (mid x0 x1 x2 x3 x4 1 0)) := by
  rw [k0_pay366, named_239, named_358, named_360, named_361, named_362] <;> rfl

theorem named_367 : k0_pay367 x0 x1 x2 x3 x4 x5 x6 x7 =
    exC (logit (par x5 x6 x7).w0 (par x5 x6 x7).q (par x5 x6 x7).k (mid x0 x1 x2 x3 x4 1 1) (mid x0 x1 x2 x3 x4 1 1)) (logit (par x5 x6 x7).w1 (par x5 x6 x7).q (par x5 x6 x7).k (mid x0 x1 x2 x3 x4 1 1) (mid x0 x1 x2 x3 x4 1 0)) := by
  rw [k0_pay367, named_239, named_358, named_360, named_361, named_362] <;> rfl

theorem named_368 : k0_pay368 x0 x1 x2 x3 x4 x5 x6 x7 =
    m2f (par x5 x6 x7) (mid x0 x1 x2 x3 x4) 1 1 := by
  rw [k0_pay368, named_317, named_323, named_324, named_333, named_340, named_366, named_367] <;> rfl

theorem named_369 : k0_pay369 x0 x1 x2 x3 x4 x5 x6 x7 =
    qi (xw (par x5 x6 x7).w0 (mid x0 x1 x2 x3 x4 2 1)) (par x5 x6 x7).q := by
  rw [k0_pay369, named_327, named_335] <;> rfl

theorem named_370 : k0_pay370 x0 x1 x2 x3 x4 x5 x6 x7 =
    qi (xw (par x5 x6 x7).w1 (mid x0 x1 x2 x3 x4 2 1)) (par x5 x6 x7).q := by
  rw [k0_pay370, named_327, named_343] <;> rfl

theorem named_371 : k0_pay371 x0 x1 x2 x3 x4 x5 x6 x7 =
    kj (par x5 x6 x7).k (xw (par x5 x6 x7).w0 (mid x0 x1 x2 x3 x4 2 1)) := by
  rw [k0_pay371, named_328, named_335] <;> rfl

theorem named_372 : k0_pay372 x0 x1 x2 x3 x4 x5 x6 x7 =
    kj (par x5 x6 x7).k (xw (par x5 x6 x7).w1 (mid x0 x1 x2 x3 x4 2 0)) := by
  rw [k0_pay372, named_328, named_342] <;> rfl

theorem named_373 : k0_pay373 x0 x1 x2 x3 x4 x5 x6 x7 =
    addf (matmul dot_S128x128_S128x192_S128x192_1_0_0_1_n_n none (par x5 x6 x7).la (mid x0 x1 x2 x3 x4 2 0) (constant S128x192 .f32 0x00000000#32)) (matmul dot_S128x128_S128x192_S128x192_1_0_0_1_n_n none (par x5 x6 x7).lw (maximumf (addf (aggr (par x5 x6 x7) (mid x0 x1 x2 x3 x4 2 0) (mid x0 x1 x2 x3 x4 2 1)) (bcol (par x5 x6 x7).bc)) (broadcast S128x192 (Scalar.ofBits .f32 0x00000000#32))) (constant S128x192 .f32 0x00000000#32)) := by
  rw [k0_pay373, named_239, named_318, named_323, named_334, named_343, named_327, named_342, named_328] <;> rfl

theorem named_374 : k0_pay374 x0 x1 x2 x3 x4 x5 x6 x7 =
    bcol (par x5 x6 x7).lb := by
  rw [k0_pay374, named_324] <;> rfl

theorem named_375 : k0_pay375 x0 x1 x2 x3 x4 x5 x6 x7 =
    m2f (par x5 x6 x7) (mid x0 x1 x2 x3 x4) 2 0 := by
  rw [k0_pay375, named_373, named_374] <;> rfl

theorem named_376 : k0_pay376 x0 x1 x2 x3 x4 x5 x6 x7 =
    prC (logit (par x5 x6 x7).w0 (par x5 x6 x7).q (par x5 x6 x7).k (mid x0 x1 x2 x3 x4 2 1) (mid x0 x1 x2 x3 x4 2 1)) (logit (par x5 x6 x7).w1 (par x5 x6 x7).q (par x5 x6 x7).k (mid x0 x1 x2 x3 x4 2 1) (mid x0 x1 x2 x3 x4 2 0)) := by
  rw [k0_pay376, named_239, named_369, named_370, named_371, named_372] <;> rfl

theorem named_377 : k0_pay377 x0 x1 x2 x3 x4 x5 x6 x7 =
    matmul dot_S128x192_S192x192_S128x192_1_1_0_0_n_n none (xw (par x5 x6 x7).w0 (mid x0 x1 x2 x3 x4 2 1)) (prS (logit (par x5 x6 x7).w0 (par x5 x6 x7).q (par x5 x6 x7).k (mid x0 x1 x2 x3 x4 2 1) (mid x0 x1 x2 x3 x4 2 1)) (logit (par x5 x6 x7).w1 (par x5 x6 x7).q (par x5 x6 x7).k (mid x0 x1 x2 x3 x4 2 1) (mid x0 x1 x2 x3 x4 2 0))) (constant S128x192 .f32 0x00000000#32) := by
  rw [k0_pay377, named_239, named_335, named_369, named_370, named_371, named_372] <;> rfl

theorem named_378 : k0_pay378 x0 x1 x2 x3 x4 x5 x6 x7 =
    m2f (par x5 x6 x7) (mid x0 x1 x2 x3 x4) 2 1 := by
  rw [k0_pay378, named_320, named_323, named_324, named_342, named_376, named_377] <;> rfl

theorem named_379 : k0_pay379 x0 x1 x2 x3 x4 x5 x6 x7 =
    logit (par x5 x6 x7).w0 (par x5 x6 x7).q (par x5 x6 x7).k (mid x0 x1 x2 x3 x4 3 0) (mid x0 x1 x2 x3 x4 3 0) := by
  rw [k0_pay379, named_327, named_328, named_336] <;> rfl

theorem named_380 : k0_pay380 x0 x1 x2 x3 x4 x5 x6 x7 =
    logit (par x5 x6 x7).w1 (par x5 x6 x7).q (par x5 x6 x7).k (mid x0 x1 x2 x3 x4 3 0) (mid x0 x1 x2 x3 x4 3 1) := by
  rw [k0_pay380, named_327, named_328, named_344, named_345] <;> rfl

theorem named_381 : k0_pay381 x0 x1 x2 x3 x4 x5 x6 x7 =
    multiReduction .maximumf [1] S192 (select notDiag (logit (par x5 x6 x7).w0 (par x5 x6 x7).q (par x5 x6 x7).k (mid x0 x1 x2 x3 x4 3 0) (mid x0 x1 x2 x3 x4 3 0)) (broadcast S192x192 (Named.named κ "mask" 0xF149F2CA#32))) 0xFF800000#32 reduces_S192x192_S192 (.inl rfl) rfl := by
  rw [k0_pay381, named_239, named_327, named_328, named_336] <;> rfl

theorem named_382 : k0_pay382 x0 x1 x2 x3 x4 x5 x6 x7 =
    m2f (par x5 x6 x7) (mid x0 x1 x2 x3 x4) 3 0 := by
  rw [k0_pay382, named_239, named_321, named_323, named_324, named_336, named_345, named_379, named_380, named_381] <;> rfl

theorem named_383 : k0_pay383 x0 x1 x2 x3 x4 x5 x6 x7 =
    addf (addf (addf (addf (addf (addf (rowSum (m2f (par x5 x6 x7) (mid x0 x1 x2 x3 x4) 0 0)) (rowSum (m2f (par x5 x6 x7) (mid x0 x1 x2 x3 x4) 0 1))) (rowSum (m2f (par x5 x6 x7) (mid x0 x1 x2 x3 x4) 1 0))) (rowSum (m2f (par x5 x6 x7) (mid x0 x1 x2 x3 x4) 1 1))) (rowSum (m2f (par x5 x6 x7) (mid x0 x1 x2 x3 x4) 2 0))) (rowSum (m2f (par x5 x6 x7) (mid x0 x1 x2 x3 x4) 2 1))) (rowSum (m2f (par x5 x6 x7) (mid x0 x1 x2 x3 x4) 3 0)) := by
  rw [k0_pay383, named_239, named_321, named_323, named_324, named_336, named_345, named_320, named_342, named_317, named_333, named_340, named_316, named_332, named_341, named_315, named_331, named_338, named_314, named_330, named_339, named_348, named_349, named_350, named_352, named_353, named_354, named_363, named_364, named_366, named_367, named_373, named_374, named_376, named_377, named_379, named_380, named_381] <;> rfl

theorem named_384 : k0_pay384 x0 x1 x2 x3 x4 x5 x6 x7 =
    m2f (par x5 x6 x7) (mid x0 x1 x2 x3 x4) 3 1 := by
  rw [k0_pay384, named_239, named_322, named_323, named_324, named_337, named_344, named_328, named_327, named_345] <;> rfl

theorem named_385 : k0_pay385 x0 x1 x2 x3 x4 x5 x6 x7 =
    addf (addf (addf (addf (addf (addf (rowSum (mulf (cent (par x5 x6 x7) (mid x0 x1 x2 x3 x4) 0 0) (cent (par x5 x6 x7) (mid x0 x1 x2 x3 x4) 0 0))) (rowSum (mulf (cent (par x5 x6 x7) (mid x0 x1 x2 x3 x4) 0 1) (cent (par x5 x6 x7) (mid x0 x1 x2 x3 x4) 0 1)))) (rowSum (mulf (cent (par x5 x6 x7) (mid x0 x1 x2 x3 x4) 1 0) (cent (par x5 x6 x7) (mid x0 x1 x2 x3 x4) 1 0)))) (rowSum (mulf (cent (par x5 x6 x7) (mid x0 x1 x2 x3 x4) 1 1) (cent (par x5 x6 x7) (mid x0 x1 x2 x3 x4) 1 1)))) (rowSum (mulf (cent (par x5 x6 x7) (mid x0 x1 x2 x3 x4) 2 0) (cent (par x5 x6 x7) (mid x0 x1 x2 x3 x4) 2 0)))) (rowSum (mulf (cent (par x5 x6 x7) (mid x0 x1 x2 x3 x4) 2 1) (cent (par x5 x6 x7) (mid x0 x1 x2 x3 x4) 2 1)))) (rowSum (mulf (cent (par x5 x6 x7) (mid x0 x1 x2 x3 x4) 3 0) (cent (par x5 x6 x7) (mid x0 x1 x2 x3 x4) 3 0))) := by
  rw [k0_pay385, named_351, named_356, named_365, named_368, named_375, named_378, named_382, named_383, named_384] <;> rfl

theorem named_386 : k0_pay386 x0 x1 x2 x3 x4 x5 x6 x7 =
    rowSum (mulf (cent (par x5 x6 x7) (mid x0 x1 x2 x3 x4) 3 1) (cent (par x5 x6 x7) (mid x0 x1 x2 x3 x4) 3 1)) := by
  rw [k0_pay386, named_383, named_384] <;> rfl

theorem out_8 : out0_8 x0 x1 x2 x3 x4 x5 x6 x7 =
    View.canon [⟨r0_3, layer (par x5 x6 x7) (mid x0 x1 x2 x3 x4) 3 0⟩,
      ⟨r0_2, layer (par x5 x6 x7) (mid x0 x1 x2 x3 x4) 2 0⟩,
      ⟨r0_1, layer (par x5 x6 x7) (mid x0 x1 x2 x3 x4) 1 0⟩,
      ⟨r0_0, layer (par x5 x6 x7) (mid x0 x1 x2 x3 x4) 0 0⟩] := by
  rw [out0_8, named_321, named_325, named_326, named_382, named_383, named_384, named_385, named_386, named_318, named_375, named_316, named_365, named_314, named_351] <;> rfl

theorem out_9 : out0_9 x0 x1 x2 x3 x4 x5 x6 x7 =
    View.canon [⟨r0_3, layer (par x5 x6 x7) (mid x0 x1 x2 x3 x4) 3 1⟩,
      ⟨r0_2, layer (par x5 x6 x7) (mid x0 x1 x2 x3 x4) 2 1⟩,
      ⟨r0_1, layer (par x5 x6 x7) (mid x0 x1 x2 x3 x4) 1 1⟩,
      ⟨r0_0, layer (par x5 x6 x7) (mid x0 x1 x2 x3 x4) 0 1⟩] := by
  rw [out0_9, named_322, named_325, named_326, named_383, named_384, named_385, named_386, named_320, named_378, named_317, named_368, named_315, named_356] <;> rfl

end Cert.Proof.Tiles

end
-- ==== Proof.Assemble.lean ====
/- The kernel's two result arrays after a run are the reference's two results of the same arguments. -/
module

public import proofs.«01_k».proof.Proof.Match
public import proofs.«01_k».proof.Proof.Outs

@[expose] public section

noncomputable section

namespace Cert.Proof.Host

open Idealize.ShloMosaic hiding ix1 ix2 ix3
open Idealize.ShloMosaic.TcCoe ValueIdx Idealize.SL.Sem Cert.KernelIdeal Cert.KernelIdeal.Gen Cert.Proof.Tiles Cert.ReferenceIdeal.Read

section
variable (x0 x1 : Vec Ideal S4x128x192 .f32) (x2 x10 : Vec Ideal S2x128x128 .f32) (x3 x4 x11 x12 : Vec Ideal S128x1 .f32)
  (x5 x7 x8 x9 x13 x15 x16 x17 : Vec Ideal S128 .f32) (x6 x14 : Vec Ideal S128x256 .f32)

/-- A tile the kernel ends with, at an element: the two layers of the specification. -/
theorem tile_end (b : Fin 4) (t : Fin 2) (o : Fin 128) (s : Fin 192) :
    layer (par (shapeCast S256x128 x10 shapeCasts_S2x128x128_S256x128) x14 (cols x13 x15 x16 x17 x11 x12))
        (mid (shapeCast S512x192 x0 shapeCasts_S4x128x192_S512x192) (shapeCast S512x192 x1 shapeCasts_S4x128x192_S512x192)
          (shapeCast S256x128 x2 shapeCasts_S2x128x128_S256x128) x6 (cols x5 x7 x8 x9 x3 x4)) b t (ix2 o s)
      = Spec.layer (Ref.lay x10 x11 x12 x13 x14 x15 x16 x17) (Spec.layer (Ref.lay x2 x3 x4 x5 x6 x7 x8 x9) (Ref.input x0 x1)) b t s o := by
  rw [layer_mid, lay_par, lay_par, tiles]

/-- A store's rows placed in the array. -/
theorem place (b : Fin 4) (n : ℕ) (hn : n = b.val * 128) (inb) (o : Fin 128) (s : Fin 192) :
    (Rect.unit (s := S512x192) ![n, 0] S128x192.size inb).emb (ix2 o s) = ix2 (Ref.row b o) s :=
  funext fun a => Fin.ext ((Rect.idx_unit_val _ _ _ _ a).trans
    (match a with | ⟨0, _⟩ => congrArg (· + o.val) hn | ⟨1, _⟩ => Nat.zero_add _))

/-- A tile's elements are its rows' elements of a whole array. -/
theorem whole_of (G : S512x192.Idx → EReal) (y : S128x192.Idx → EReal) (b : Fin 4) (n : ℕ) (hn : n = b.val * 128) (inb)
    (h : ∀ o s, y (ix2 o s) = G (ix2 (Ref.row b o) s)) (x : S128x192.Idx) :
    y x = G ((Rect.unit (s := S512x192) ![n, 0] S128x192.size inb).emb x) := by
  have e : x = ix2 (x 0) (x 1) := Ref.ext2 rfl rfl
  exact (congrArg y e).trans ((h _ _).trans (congrArg G ((place b n hn inb (x 0) (x 1)).symm.trans (congrArg _ e.symm))))

theorem left_eq :
    out0_8 (F := Ideal) (shapeCast S512x192 x0 shapeCasts_S4x128x192_S512x192) (shapeCast S512x192 x1 shapeCasts_S4x128x192_S512x192)
        (shapeCast S256x128 x2 shapeCasts_S2x128x128_S256x128) x6 (cols x5 x7 x8 x9 x3 x4)
        (shapeCast S256x128 x10 shapeCasts_S2x128x128_S256x128) x14 (cols x13 x15 x16 x17 x11 x12)
      = val_main_v206 (F := Ideal) x0 x1 x2 x3 x4 x5 x6 x7 x8 x9 x10 x11 x12 x13 x14 x15 x16 x17 := by
  rw [out_8]
  funext y
  refine View.canon_apply_of_pieces (Val := Elt Ideal) (e := .f32) _ _ ?_ y (cover0_8 _ _ _ _ y)
  have key := fun (b : Fin 4) (o : Fin 128) (s : Fin 192) =>
    (tile_end x0 x1 x2 x10 x3 x4 x11 x12 x5 x7 x8 x9 x13 x15 x16 x17 x6 x14 b 0 o s).trans
      (Ref.result_left x0 x1 x2 x10 x3 x4 x11 x12 x5 x7 x8 x9 x13 x15 x16 x17 x6 x14 b o s).symm
  intro p hp
  simp only [List.mem_cons, List.not_mem_nil, or_false] at hp
  rcases hp with rfl | rfl | rfl | rfl
  · exact whole_of _ _ 3 384 rfl inb_S512x192_S128x192_384_0 (key 3)
  · exact whole_of _ _ 2 256 rfl inb_S512x192_S128x192_256_0 (key 2)
  · exact whole_of _ _ 1 128 rfl inb_S512x192_S128x192_128_0 (key 1)
  · exact whole_of _ _ 0 0 rfl inb_S512x192_S128x192_0_0 (key 0)

theorem right_eq :
    out0_9 (F := Ideal) (shapeCast S512x192 x0 shapeCasts_S4x128x192_S512x192) (shapeCast S512x192 x1 shapeCasts_S4x128x192_S512x192)
        (shapeCast S256x128 x2 shapeCasts_S2x128x128_S256x128) x6 (cols x5 x7 x8 x9 x3 x4)
        (shapeCast S256x128 x10 shapeCasts_S2x128x128_S256x128) x14 (cols x13 x15 x16 x17 x11 x12)
      = val_main_v208 (F := Ideal) x0 x1 x2 x3 x4 x5 x6 x7 x8 x9 x10 x11 x12 x13 x14 x15 x16 x17 := by
  rw [out_9]
  funext y
  refine View.canon_apply_of_pieces (Val := Elt Ideal) (e := .f32) _ _ ?_ y (cover0_9 _ _ _ _ y)
  have key := fun (b : Fin 4) (o : Fin 128) (s : Fin 192) =>
    (tile_end x0 x1 x2 x10 x3 x4 x11 x12 x5 x7 x8 x9 x13 x15 x16 x17 x6 x14 b 1 o s).trans
      (Ref.result_right x0 x1 x2 x10 x3 x4 x11 x12 x5 x7 x8 x9 x13 x15 x16 x17 x6 x14 b o s).symm
  intro p hp
  simp only [List.mem_cons, List.not_mem_nil, or_false] at hp
  rcases hp with rfl | rfl | rfl | rfl
  · exact whole_of _ _ 3 384 rfl inb_S512x192_S128x192_384_0 (key 3)
  · exact whole_of _ _ 2 256 rfl inb_S512x192_S128x192_256_0 (key 2)
  · exact whole_of _ _ 1 128 rfl inb_S512x192_S128x192_128_0 (key 1)
  · exact whole_of _ _ 0 0 rfl inb_S512x192_S128x192_0_0 (key 0)

end

variable (m : (ℓ : Loc nD τ sig) → Buf (Elt Ideal) ℓ) (c : Dev nD)

/-- Every window's block starts at its array's origin. -/
theorem origin : ∀ t : Fin cfg0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0] ∧ win0_7.index t = ![0, 0] :=
  (by decide +kernel : ∀ t : Fin grid0.N, _)

theorem block_0 : iblk m c 0 t0_0 = V m c main_v0 := by
  blk_ext! [iblk, origin t0_0]
theorem block_1 : iblk m c 1 t0_0 = V m c main_v1 := by
  blk_ext! [iblk, origin t0_0]
theorem block_2 : iblk m c 2 t0_0 = V m c main_v2 := by
  blk_ext! [iblk, origin t0_0]
theorem block_3 : iblk m c 3 t0_0 = V m c main_arg6 := by
  blk_ext! [iblk, origin t0_0]
theorem block_4 : iblk m c 4 t0_0 = V m c main_v12 := by
  blk_ext! [iblk, origin t0_0]
theorem block_5 : iblk m c 5 t0_0 = V m c main_v13 := by
  blk_ext! [iblk, origin t0_0]
theorem block_6 : iblk m c 6 t0_0 = V m c main_arg14 := by
  blk_ext! [iblk, origin t0_0]
theorem block_7 : iblk m c 7 t0_0 = V m c main_v23 := by
  blk_ext! [iblk, origin t0_0]

theorem final_left : (dats m 0 c).arrAt 8 cfg0.N
    = val_main_v206 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17)) := by
  refine (dats m 0 c).arrAt_eq_of_after_last 8 t0_0 (by decide +kernel) _ fun j => ?_
  blk_simp
  rw [after0_8, block_0, block_1, block_2, block_3, block_4, block_5, block_6, block_7, at_v0, at_v1, at_v2, V_main_arg6, at_v12, at_v13, V_main_arg14, at_v23]
  exact congrFun (left_eq _ _ _ _ _ _ _ _ _ _ _ _ _ _ _ _ _ _) j

theorem final_right : (dats m 0 c).arrAt 9 cfg0.N
    = val_main_v208 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17)) := by
  refine (dats m 0 c).arrAt_eq_of_after_last 9 t0_0 (by decide +kernel) _ fun j => ?_
  blk_simp
  rw [after0_9, block_0, block_1, block_2, block_3, block_4, block_5, block_6, block_7, at_v0, at_v1, at_v2, V_main_arg6, at_v12, at_v13, V_main_arg14, at_v23]
  exact congrFun (right_eq _ _ _ _ _ _ _ _ _ _ _ _ _ _ _ _ _ _) j

end Cert.Proof.Host

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Assemble
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged; it has no semaphore. -/
theorem reference_frame : Cert.quiescent_ReferenceIdeal := fun m g _ =>
  (θ_run (Cert.ReferenceIdeal.defs (F := Ideal)) _ _).mono
    (fun r h => ⟨fun c => (h c).2.2, Idealize.ShloMosaic.sem_eq_zero_of_no_sems (by decide) r.2⟩) (Cert.ReferenceIdeal.Value.run m g)

/-- The kernel's two results are the reference's two results, element by element. -/
theorem algebraic : Cert.algebraic_KernelIdeal_ReferenceIdeal := fun m g m' g' _ agree => by
  refine ⟨fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · exact (θ_run (Cert.KernelIdeal.defs (F := Ideal)) _ _).mono (fun _ h c => ⟨h.2.out_eq c 8, h.2.out_eq c 9, h.1 c⟩)
      (θ_run_and (Cert.KernelIdeal.Gen.unchanged m g) (Cert.KernelIdeal.Gen.run_main m g))
  · refine (θ_run (Cert.ReferenceIdeal.defs (F := Ideal)) _ _).mono (fun _ h c => ?_) (Cert.ReferenceIdeal.Value.run m' g')
    refine ⟨(h c).1.trans ((Cert.ReferenceIdeal.Read.val_main_v206_eq (StableHlo.launchContents m' c)).trans ?_),
      (h c).2.1.trans ((Cert.ReferenceIdeal.Read.val_main_v208_eq (StableHlo.launchContents m' c)).trans ?_), (h c).2.2⟩
    · refine Eq.trans ?_ (Host.final_left m c).symm
      obtain ⟨a0, a1, a2, a3, a4, a5, a6, a7, a8, a9, a10, a11, a12, a13, a14, a15, a16, a17⟩ := agree c
      exact congr (congr (congr (congr (congr (congr (congr (congr (congr (congr (congr (congr (congr (congr (congr (congr (congr (congrArg (Cert.ReferenceIdeal.Read.val_main_v206 (F := Ideal)) a0) a1) a2) a3) a4) a5) a6) a7) a8) a9) a10) a11) a12) a13) a14) a15) a16) a17
    · refine Eq.trans ?_ (Host.final_right m c).symm
      obtain ⟨a0, a1, a2, a3, a4, a5, a6, a7, a8, a9, a10, a11, a12, a13, a14, a15, a16, a17⟩ := agree c
      exact congr (congr (congr (congr (congr (congr (congr (congr (congr (congr (congr (congr (congr (congr (congr (congr (congr (congrArg (Cert.ReferenceIdeal.Read.val_main_v208 (F := Ideal)) a0) a1) a2) a3) a4) a5) a6) a7) a8) a9) a10) a11) a12) a13) a14) a15) a16) a17

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  reference_frame,
  ⟨IdealRules.named_const.statement Cert.KernelIdeal.κ "mask" .f32 0xF149F2CA#32 ⊥ rfl,
    IdealRules.named_const.statement Cert.KernelIdeal.κ "inv_tot" .f32 0x3A2AAAAB#32 ((1 / 1536 : ℝ) : EReal) rfl⟩,
  algebraic⟩

end Cert.Proof

end
